-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Gin (m : (ℓ : Loc Cert.Gin.nD Cert.Gin.τ Cert.Gin.sig) → Buf (Elt Bits) ℓ) : Prop :=
  True

def Pre_GinIdeal (m : (ℓ : Loc Cert.GinIdeal.nD Cert.GinIdeal.τ Cert.GinIdeal.sig) → Buf (Elt Ideal) ℓ) : Prop :=
  True

def Pre_GinRefIdeal (m : (ℓ : Loc Cert.GinRefIdeal.nD Cert.GinRefIdeal.τ Cert.GinRefIdeal.sig) → Buf (Elt Ideal) ℓ) : Prop :=
  True

def Pre_Core (m : (ℓ : Loc Cert.Core.nD Cert.Core.τ Cert.Core.sig) → Buf (Elt Bits) ℓ) : Prop :=
  True

def Pre_CoreIdeal (m : (ℓ : Loc Cert.CoreIdeal.nD Cert.CoreIdeal.τ Cert.CoreIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5)
      ∧ r.2.mem ((c.tc : Thread Cert.Sgu.nD Cert.Sgu.τ).loc Cert.Sgu.main_arg6) = m ((c.tc : Thread Cert.Sgu.nD Cert.Sgu.τ).loc Cert.Sgu.main_arg6))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
      ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5)
      ∧ r.2.mem ((c.tc : Thread Cert.SguRefIdeal.nD Cert.SguRefIdeal.τ).loc Cert.SguRefIdeal.main_arg6) = m ((c.tc : Thread Cert.SguRefIdeal.nD Cert.SguRefIdeal.τ).loc Cert.SguRefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11)
      ∧ r.2.mem ((c.tc : Thread Cert.Mix.nD Cert.Mix.τ).loc Cert.Mix.main_arg12) = m ((c.tc : Thread Cert.Mix.nD Cert.Mix.τ).loc Cert.Mix.main_arg12))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
      ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11)
      ∧ r.2.mem ((c.tc : Thread Cert.MixRefIdeal.nD Cert.MixRefIdeal.τ).loc Cert.MixRefIdeal.main_arg12) = m ((c.tc : Thread Cert.MixRefIdeal.nD Cert.MixRefIdeal.τ).loc Cert.MixRefIdeal.main_arg12))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def quiescent_Gin [hGin : Cert.Gin.Facts] : Prop :=
  ∀ (m : (ℓ : Loc Cert.Gin.nD Cert.Gin.τ Cert.Gin.sig) → Buf (Elt Bits) ℓ) (g : Dev Cert.Gin.nD → PrngReg), Pre_Gin m →
    θ_run (Cert.Gin.defs (F := Bits)) (onTc (τ := Cert.Gin.τ) (Cert.Gin.main (F := Bits))) ⟨m, fun _ => 0, g⟩ (fun r => (∀ c : Dev Cert.Gin.nD,
      r.2.mem ((c.tc : Thread Cert.Gin.nD Cert.Gin.τ).loc Cert.Gin.main_arg0) = m ((c.tc : Thread Cert.Gin.nD Cert.Gin.τ).loc Cert.Gin.main_arg0)
      ∧ r.2.mem ((c.tc : Thread Cert.Gin.nD Cert.Gin.τ).loc Cert.Gin.main_arg1) = m ((c.tc : Thread Cert.Gin.nD Cert.Gin.τ).loc Cert.Gin.main_arg1)
      ∧ r.2.mem ((c.tc : Thread Cert.Gin.nD Cert.Gin.τ).loc Cert.Gin.main_arg2) = m ((c.tc : Thread Cert.Gin.nD Cert.Gin.τ).loc Cert.Gin.main_arg2)
      ∧ r.2.mem ((c.tc : Thread Cert.Gin.nD Cert.Gin.τ).loc Cert.Gin.main_arg3) = m ((c.tc : Thread Cert.Gin.nD Cert.Gin.τ).loc Cert.Gin.main_arg3)
      ∧ r.2.mem ((c.tc : Thread Cert.Gin.nD Cert.Gin.τ).loc Cert.Gin.main_arg4) = m ((c.tc : Thread Cert.Gin.nD Cert.Gin.τ).loc Cert.Gin.main_arg4)
      ∧ r.2.mem ((c.tc : Thread Cert.Gin.nD Cert.Gin.τ).loc Cert.Gin.main_arg5) = m ((c.tc : Thread Cert.Gin.nD Cert.Gin.τ).loc Cert.Gin.main_arg5))
      ∧ r.2.sem = fun _ => 0)

def quiescent_GinIdeal [hGinIdeal : Cert.GinIdeal.Facts] : Prop :=
  ∀ (m : (ℓ : Loc Cert.GinIdeal.nD Cert.GinIdeal.τ Cert.GinIdeal.sig) → Buf (Elt Ideal) ℓ) (g : Dev Cert.GinIdeal.nD → PrngReg), Pre_GinIdeal m →
    θ_run (Cert.GinIdeal.defs (F := Ideal)) (onTc (τ := Cert.GinIdeal.τ) (Cert.GinIdeal.main (F := Ideal))) ⟨m, fun _ => 0, g⟩ (fun r => (∀ c : Dev Cert.GinIdeal.nD,
      r.2.mem ((c.tc : Thread Cert.GinIdeal.nD Cert.GinIdeal.τ).loc Cert.GinIdeal.main_arg0) = m ((c.tc : Thread Cert.GinIdeal.nD Cert.GinIdeal.τ).loc Cert.GinIdeal.main_arg0)
      ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
      ∧ r.2.mem ((c.tc : Thread Cert.GinIdeal.nD Cert.GinIdeal.τ).loc Cert.GinIdeal.main_arg2) = m ((c.tc : Thread Cert.GinIdeal.nD Cert.GinIdeal.τ).loc Cert.GinIdeal.main_arg2)
      ∧ r.2.mem ((c.tc : Thread Cert.GinIdeal.nD Cert.GinIdeal.τ).loc Cert.GinIdeal.main_arg3) = m ((c.tc : Thread Cert.GinIdeal.nD Cert.GinIdeal.τ).loc Cert.GinIdeal.main_arg3)
      ∧ r.2.mem ((c.tc : Thread Cert.GinIdeal.nD Cert.GinIdeal.τ).loc Cert.GinIdeal.main_arg4) = m ((c.tc : Thread Cert.GinIdeal.nD Cert.GinIdeal.τ).loc Cert.GinIdeal.main_arg4)
      ∧ r.2.mem ((c.tc : Thread Cert.GinIdeal.nD Cert.GinIdeal.τ).loc Cert.GinIdeal.main_arg5) = m ((c.tc : Thread Cert.GinIdeal.nD Cert.GinIdeal.τ).loc Cert.GinIdeal.main_arg5))
      ∧ r.2.sem = fun _ => 0)

def quiescent_GinRefIdeal [hGinRefIdeal : Cert.GinRefIdeal.Facts] : Prop :=
  ∀ (m : (ℓ : Loc Cert.GinRefIdeal.nD Cert.GinRefIdeal.τ Cert.GinRefIdeal.sig) → Buf (Elt Ideal) ℓ) (g : Dev Cert.GinRefIdeal.nD → PrngReg), Pre_GinRefIdeal m →
    θ_run (Cert.GinRefIdeal.defs (F := Ideal)) (onTc (τ := Cert.GinRefIdeal.τ) (Cert.GinRefIdeal.main (F := Ideal))) ⟨m, fun _ => 0, g⟩ (fun r => (∀ c : Dev Cert.GinRefIdeal.nD,
      r.2.mem ((c.tc : Thread Cert.GinRefIdeal.nD Cert.GinRefIdeal.τ).loc Cert.GinRefIdeal.main_arg0) = m ((c.tc : Thread Cert.GinRefIdeal.nD Cert.GinRefIdeal.τ).loc Cert.GinRefIdeal.main_arg0)
      ∧ r.2.mem ((c.tc : Thread Cert.GinRefIdeal.nD Cert.GinRefIdeal.τ).loc Cert.GinRefIdeal.main_arg1) = m ((c.tc : Thread Cert.GinRefIdeal.nD Cert.GinRefIdeal.τ).loc Cert.GinRefIdeal.main_arg1)
      ∧ r.2.mem ((c.tc : Thread Cert.GinRefIdeal.nD Cert.GinRefIdeal.τ).loc Cert.GinRefIdeal.main_arg2) = m ((c.tc : Thread Cert.GinRefIdeal.nD Cert.GinRefIdeal.τ).loc Cert.GinRefIdeal.main_arg2)
      ∧ r.2.mem ((c.tc : Thread Cert.GinRefIdeal.nD Cert.GinRefIdeal.τ).loc Cert.GinRefIdeal.main_arg3) = m ((c.tc : Thread Cert.GinRefIdeal.nD Cert.GinRefIdeal.τ).loc Cert.GinRefIdeal.main_arg3)
      ∧ r.2.mem ((c.tc : Thread Cert.GinRefIdeal.nD Cert.GinRefIdeal.τ).loc Cert.GinRefIdeal.main_arg4) = m ((c.tc : Thread Cert.GinRefIdeal.nD Cert.GinRefIdeal.τ).loc Cert.GinRefIdeal.main_arg4)
      ∧ r.2.mem ((c.tc : Thread Cert.GinRefIdeal.nD Cert.GinRefIdeal.τ).loc Cert.GinRefIdeal.main_arg5) = m ((c.tc : Thread Cert.GinRefIdeal.nD Cert.GinRefIdeal.τ).loc Cert.GinRefIdeal.main_arg5))
      ∧ r.2.sem = fun _ => 0)

def quiescent_Core [hCore : Cert.Core.Facts] : Prop :=
  ∀ (m : (ℓ : Loc Cert.Core.nD Cert.Core.τ Cert.Core.sig) → Buf (Elt Bits) ℓ) (g : Dev Cert.Core.nD → PrngReg), Pre_Core m →
    θ_run (Cert.Core.defs (F := Bits)) (onTc (τ := Cert.Core.τ) (Cert.Core.main (F := Bits))) ⟨m, fun _ => 0, g⟩ (fun r => (∀ c : Dev Cert.Core.nD,
      r.2.mem ((c.tc : Thread Cert.Core.nD Cert.Core.τ).loc Cert.Core.main_arg0) = m ((c.tc : Thread Cert.Core.nD Cert.Core.τ).loc Cert.Core.main_arg0)
      ∧ r.2.mem ((c.tc : Thread Cert.Core.nD Cert.Core.τ).loc Cert.Core.main_arg1) = m ((c.tc : Thread Cert.Core.nD Cert.Core.τ).loc Cert.Core.main_arg1)
      ∧ r.2.mem ((c.tc : Thread Cert.Core.nD Cert.Core.τ).loc Cert.Core.main_arg2) = m ((c.tc : Thread Cert.Core.nD Cert.Core.τ).loc Cert.Core.main_arg2)
      ∧ r.2.mem ((c.tc : Thread Cert.Core.nD Cert.Core.τ).loc Cert.Core.main_arg3) = m ((c.tc : Thread Cert.Core.nD Cert.Core.τ).loc Cert.Core.main_arg3)
      ∧ r.2.mem ((c.tc : Thread Cert.Core.nD Cert.Core.τ).loc Cert.Core.main_arg4) = m ((c.tc : Thread Cert.Core.nD Cert.Core.τ).loc Cert.Core.main_arg4)
      ∧ r.2.mem ((c.tc : Thread Cert.Core.nD Cert.Core.τ).loc Cert.Core.main_arg5) = m ((c.tc : Thread Cert.Core.nD Cert.Core.τ).loc Cert.Core.main_arg5)
      ∧ r.2.mem ((c.tc : Thread Cert.Core.nD Cert.Core.τ).loc Cert.Core.main_arg6) = m ((c.tc : Thread Cert.Core.nD Cert.Core.τ).loc Cert.Core.main_arg6))
      ∧ r.2.sem = fun _ => 0)

def quiescent_CoreIdeal [hCoreIdeal : Cert.CoreIdeal.Facts] : Prop :=
  ∀ (m : (ℓ : Loc Cert.CoreIdeal.nD Cert.CoreIdeal.τ Cert.CoreIdeal.sig) → Buf (Elt Ideal) ℓ) (g : Dev Cert.CoreIdeal.nD → PrngReg), Pre_CoreIdeal m →
    θ_run (Cert.CoreIdeal.defs (F := Ideal)) (onTc (τ := Cert.CoreIdeal.τ) (Cert.CoreIdeal.main (F := Ideal))) ⟨m, fun _ => 0, g⟩ (fun r => (∀ c : Dev Cert.CoreIdeal.nD,
      r.2.mem ((c.tc : Thread Cert.CoreIdeal.nD Cert.CoreIdeal.τ).loc Cert.CoreIdeal.main_arg0) = m ((c.tc : Thread Cert.CoreIdeal.nD Cert.CoreIdeal.τ).loc Cert.CoreIdeal.main_arg0)
      ∧ r.2.mem ((c.tc : Thread Cert.CoreIdeal.nD Cert.CoreIdeal.τ).loc Cert.CoreIdeal.main_arg1) = m ((c.tc : Thread Cert.CoreIdeal.nD Cert.CoreIdeal.τ).loc Cert.CoreIdeal.main_arg1)
      ∧ r.2.mem ((c.tc : Thread Cert.CoreIdeal.nD Cert.CoreIdeal.τ).loc Cert.CoreIdeal.main_arg2) = m ((c.tc : Thread Cert.CoreIdeal.nD Cert.CoreIdeal.τ).loc Cert.CoreIdeal.main_arg2)
      ∧ r.2.mem ((c.tc : Thread Cert.CoreIdeal.nD Cert.CoreIdeal.τ).loc Cert.CoreIdeal.main_arg3) = m ((c.tc : Thread Cert.CoreIdeal.nD Cert.CoreIdeal.τ).loc Cert.CoreIdeal.main_arg3)
      ∧ r.2.mem ((c.tc : Thread Cert.CoreIdeal.nD Cert.CoreIdeal.τ).loc Cert.CoreIdeal.main_arg4) = m ((c.tc : Thread Cert.CoreIdeal.nD Cert.CoreIdeal.τ).loc Cert.CoreIdeal.main_arg4)
      ∧ r.2.mem ((c.tc : Thread Cert.CoreIdeal.nD Cert.CoreIdeal.τ).loc Cert.CoreIdeal.main_arg5) = m ((c.tc : Thread Cert.CoreIdeal.nD Cert.CoreIdeal.τ).loc Cert.CoreIdeal.main_arg5)
      ∧ r.2.mem ((c.tc : Thread Cert.CoreIdeal.nD Cert.CoreIdeal.τ).loc Cert.CoreIdeal.main_arg6) = m ((c.tc : Thread Cert.CoreIdeal.nD Cert.CoreIdeal.τ).loc Cert.CoreIdeal.main_arg6))
      ∧ r.2.sem = fun _ => 0)

def preserves_Sgu_SguIdeal : Prop :=
  IdealRules.named_const.Statement Cert.SguIdeal.κ "isqrt2" .f32 0x3F3504F3#32 (((Real.sqrt 2)⁻¹ : ℝ) : EReal)

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)
      ∧ m' ((c.tc : Thread Cert.SguRefIdeal.nD Cert.SguRefIdeal.τ).loc Cert.SguRefIdeal.main_arg6) = m ((c.tc : Thread Cert.SguIdeal.nD Cert.SguIdeal.τ).loc Cert.SguIdeal.main_arg6)) →
    ∃ (v0 : (c : Dev Cert.SguIdeal.nD) → Buf (Elt Ideal) ((c.tc : Thread Cert.SguIdeal.nD Cert.SguIdeal.τ).loc Cert.SguIdeal.main_v5)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v5) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5)
          ∧ r.2.mem ((c.tc : Thread Cert.SguIdeal.nD Cert.SguIdeal.τ).loc Cert.SguIdeal.main_arg6) = m ((c.tc : Thread Cert.SguIdeal.nD Cert.SguIdeal.τ).loc Cert.SguIdeal.main_arg6))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v58) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5)
          ∧ r.2.mem ((c.tc : Thread Cert.SguRefIdeal.nD Cert.SguRefIdeal.τ).loc Cert.SguRefIdeal.main_arg6) = m' ((c.tc : Thread Cert.SguRefIdeal.nD Cert.SguRefIdeal.τ).loc Cert.SguRefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)
      ∧ m' ((c.tc : Thread Cert.MixRefIdeal.nD Cert.MixRefIdeal.τ).loc Cert.MixRefIdeal.main_arg12) = m ((c.tc : Thread Cert.MixIdeal.nD Cert.MixIdeal.τ).loc Cert.MixIdeal.main_arg12)) →
    ∃ (v0 : (c : Dev Cert.MixIdeal.nD) → Buf (Elt Ideal) ((c.tc : Thread Cert.MixIdeal.nD Cert.MixIdeal.τ).loc Cert.MixIdeal.main_v9)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v9) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11)
          ∧ r.2.mem ((c.tc : Thread Cert.MixIdeal.nD Cert.MixIdeal.τ).loc Cert.MixIdeal.main_arg12) = m ((c.tc : Thread Cert.MixIdeal.nD Cert.MixIdeal.τ).loc Cert.MixIdeal.main_arg12))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v84) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11)
          ∧ r.2.mem ((c.tc : Thread Cert.MixRefIdeal.nD Cert.MixRefIdeal.τ).loc Cert.MixRefIdeal.main_arg12) = m' ((c.tc : Thread Cert.MixRefIdeal.nD Cert.MixRefIdeal.τ).loc Cert.MixRefIdeal.main_arg12))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v28)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v28) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v91) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12))

def preserves_Gin_GinIdeal : Prop :=
  IdealRules.named_const.Statement Cert.GinIdeal.κ "isqrt128" .f32 0x3DB504F3#32 (((Real.sqrt 128)⁻¹ : ℝ) : EReal)

def algebraic_GinIdeal_GinRefIdeal [hGinIdeal : Cert.GinIdeal.Facts] [hGinRefIdeal : Cert.GinRefIdeal.Facts] : Prop :=
  ∀ (m : (ℓ : Loc Cert.GinIdeal.nD Cert.GinIdeal.τ Cert.GinIdeal.sig) → Buf (Elt Ideal) ℓ) (g : Dev Cert.GinIdeal.nD → PrngReg)
    (m' : (ℓ : Loc Cert.GinRefIdeal.nD Cert.GinRefIdeal.τ Cert.GinRefIdeal.sig) → Buf (Elt Ideal) ℓ) (g' : Dev Cert.GinRefIdeal.nD → PrngReg), Pre_GinIdeal m →
    (∀ c : Dev Cert.GinIdeal.nD,
      m' ((c.tc : Thread Cert.GinRefIdeal.nD Cert.GinRefIdeal.τ).loc Cert.GinRefIdeal.main_arg0) = m ((c.tc : Thread Cert.GinIdeal.nD Cert.GinIdeal.τ).loc Cert.GinIdeal.main_arg0)
      ∧ m' ((c.tc : Thread Cert.GinRefIdeal.nD Cert.GinRefIdeal.τ).loc Cert.GinRefIdeal.main_arg1) = m ((c.tc : Thread Cert.GinIdeal.nD Cert.GinIdeal.τ).loc Cert.GinIdeal.main_arg1)
      ∧ m' ((c.tc : Thread Cert.GinRefIdeal.nD Cert.GinRefIdeal.τ).loc Cert.GinRefIdeal.main_arg2) = m ((c.tc : Thread Cert.GinIdeal.nD Cert.GinIdeal.τ).loc Cert.GinIdeal.main_arg2)
      ∧ m' ((c.tc : Thread Cert.GinRefIdeal.nD Cert.GinRefIdeal.τ).loc Cert.GinRefIdeal.main_arg3) = m ((c.tc : Thread Cert.GinIdeal.nD Cert.GinIdeal.τ).loc Cert.GinIdeal.main_arg3)
      ∧ m' ((c.tc : Thread Cert.GinRefIdeal.nD Cert.GinRefIdeal.τ).loc Cert.GinRefIdeal.main_arg4) = m ((c.tc : Thread Cert.GinIdeal.nD Cert.GinIdeal.τ).loc Cert.GinIdeal.main_arg4)
      ∧ m' ((c.tc : Thread Cert.GinRefIdeal.nD Cert.GinRefIdeal.τ).loc Cert.GinRefIdeal.main_arg5) = m ((c.tc : Thread Cert.GinIdeal.nD Cert.GinIdeal.τ).loc Cert.GinIdeal.main_arg5)) →
    ∃ (v0 : (c : Dev Cert.GinIdeal.nD) → Buf (Elt Ideal) ((c.tc : Thread Cert.GinIdeal.nD Cert.GinIdeal.τ).loc Cert.GinIdeal.main_v8_0)) (v1 : (c : Dev Cert.GinIdeal.nD) → Buf (Elt Ideal) ((c.tc : Thread Cert.GinIdeal.nD Cert.GinIdeal.τ).loc Cert.GinIdeal.main_v8_1)) (v2 : (c : Dev Cert.GinIdeal.nD) → Buf (Elt Ideal) ((c.tc : Thread Cert.GinIdeal.nD Cert.GinIdeal.τ).loc Cert.GinIdeal.main_v8_2)) (v3 : (c : Dev Cert.GinIdeal.nD) → Buf (Elt Ideal) ((c.tc : Thread Cert.GinIdeal.nD Cert.GinIdeal.τ).loc Cert.GinIdeal.main_v8_3)) (v4 : (c : Dev Cert.GinIdeal.nD) → Buf (Elt Ideal) ((c.tc : Thread Cert.GinIdeal.nD Cert.GinIdeal.τ).loc Cert.GinIdeal.main_v8_4)) (v5 : (c : Dev Cert.GinIdeal.nD) → Buf (Elt Ideal) ((c.tc : Thread Cert.GinIdeal.nD Cert.GinIdeal.τ).loc Cert.GinIdeal.main_v8_5)),
      θ_run (Cert.GinIdeal.defs (F := Ideal)) (onTc (τ := Cert.GinIdeal.τ) (Cert.GinIdeal.main (F := Ideal))) ⟨m, fun _ => 0, g⟩ (fun r => ∀ c : Dev Cert.GinIdeal.nD,
          r.2.mem ((c.tc : Thread Cert.GinIdeal.nD Cert.GinIdeal.τ).loc Cert.GinIdeal.main_v8_0) = v0 c
          ∧ r.2.mem ((c.tc : Thread Cert.GinIdeal.nD Cert.GinIdeal.τ).loc Cert.GinIdeal.main_v8_1) = v1 c
          ∧ r.2.mem ((c.tc : Thread Cert.GinIdeal.nD Cert.GinIdeal.τ).loc Cert.GinIdeal.main_v8_2) = v2 c
          ∧ r.2.mem ((c.tc : Thread Cert.GinIdeal.nD Cert.GinIdeal.τ).loc Cert.GinIdeal.main_v8_3) = v3 c
          ∧ r.2.mem ((c.tc : Thread Cert.GinIdeal.nD Cert.GinIdeal.τ).loc Cert.GinIdeal.main_v8_4) = v4 c
          ∧ r.2.mem ((c.tc : Thread Cert.GinIdeal.nD Cert.GinIdeal.τ).loc Cert.GinIdeal.main_v8_5) = v5 c
          ∧ r.2.mem ((c.tc : Thread Cert.GinIdeal.nD Cert.GinIdeal.τ).loc Cert.GinIdeal.main_arg0) = m ((c.tc : Thread Cert.GinIdeal.nD Cert.GinIdeal.τ).loc Cert.GinIdeal.main_arg0)
          ∧ r.2.mem ((c.tc : Thread Cert.GinIdeal.nD Cert.GinIdeal.τ).loc Cert.GinIdeal.main_arg1) = m ((c.tc : Thread Cert.GinIdeal.nD Cert.GinIdeal.τ).loc Cert.GinIdeal.main_arg1)
          ∧ r.2.mem ((c.tc : Thread Cert.GinIdeal.nD Cert.GinIdeal.τ).loc Cert.GinIdeal.main_arg2) = m ((c.tc : Thread Cert.GinIdeal.nD Cert.GinIdeal.τ).loc Cert.GinIdeal.main_arg2)
          ∧ r.2.mem ((c.tc : Thread Cert.GinIdeal.nD Cert.GinIdeal.τ).loc Cert.GinIdeal.main_arg3) = m ((c.tc : Thread Cert.GinIdeal.nD Cert.GinIdeal.τ).loc Cert.GinIdeal.main_arg3)
          ∧ r.2.mem ((c.tc : Thread Cert.GinIdeal.nD Cert.GinIdeal.τ).loc Cert.GinIdeal.main_arg4) = m ((c.tc : Thread Cert.GinIdeal.nD Cert.GinIdeal.τ).loc Cert.GinIdeal.main_arg4)
          ∧ r.2.mem ((c.tc : Thread Cert.GinIdeal.nD Cert.GinIdeal.τ).loc Cert.GinIdeal.main_arg5) = m ((c.tc : Thread Cert.GinIdeal.nD Cert.GinIdeal.τ).loc Cert.GinIdeal.main_arg5))
      ∧ θ_run (Cert.GinRefIdeal.defs (F := Ideal)) (onTc (τ := Cert.GinRefIdeal.τ) (Cert.GinRefIdeal.main (F := Ideal))) ⟨m', fun _ => 0, g'⟩ (fun r => ∀ c : Dev Cert.GinRefIdeal.nD,
          r.2.mem ((c.tc : Thread Cert.GinRefIdeal.nD Cert.GinRefIdeal.τ).loc Cert.GinRefIdeal.main_v89) = v0 c
          ∧ r.2.mem ((c.tc : Thread Cert.GinRefIdeal.nD Cert.GinRefIdeal.τ).loc Cert.GinRefIdeal.main_v91) = v1 c
          ∧ r.2.mem ((c.tc : Thread Cert.GinRefIdeal.nD Cert.GinRefIdeal.τ).loc Cert.GinRefIdeal.main_v92) = v2 c
          ∧ r.2.mem ((c.tc : Thread Cert.GinRefIdeal.nD Cert.GinRefIdeal.τ).loc Cert.GinRefIdeal.main_v93) = v3 c
          ∧ r.2.mem ((c.tc : Thread Cert.GinRefIdeal.nD Cert.GinRefIdeal.τ).loc Cert.GinRefIdeal.main_v94) = v4 c
          ∧ r.2.mem ((c.tc : Thread Cert.GinRefIdeal.nD Cert.GinRefIdeal.τ).loc Cert.GinRefIdeal.main_v95) = v5 c
          ∧ r.2.mem ((c.tc : Thread Cert.GinRefIdeal.nD Cert.GinRefIdeal.τ).loc Cert.GinRefIdeal.main_arg0) = m' ((c.tc : Thread Cert.GinRefIdeal.nD Cert.GinRefIdeal.τ).loc Cert.GinRefIdeal.main_arg0)
          ∧ r.2.mem ((c.tc : Thread Cert.GinRefIdeal.nD Cert.GinRefIdeal.τ).loc Cert.GinRefIdeal.main_arg1) = m' ((c.tc : Thread Cert.GinRefIdeal.nD Cert.GinRefIdeal.τ).loc Cert.GinRefIdeal.main_arg1)
          ∧ r.2.mem ((c.tc : Thread Cert.GinRefIdeal.nD Cert.GinRefIdeal.τ).loc Cert.GinRefIdeal.main_arg2) = m' ((c.tc : Thread Cert.GinRefIdeal.nD Cert.GinRefIdeal.τ).loc Cert.GinRefIdeal.main_arg2)
          ∧ r.2.mem ((c.tc : Thread Cert.GinRefIdeal.nD Cert.GinRefIdeal.τ).loc Cert.GinRefIdeal.main_arg3) = m' ((c.tc : Thread Cert.GinRefIdeal.nD Cert.GinRefIdeal.τ).loc Cert.GinRefIdeal.main_arg3)
          ∧ r.2.mem ((c.tc : Thread Cert.GinRefIdeal.nD Cert.GinRefIdeal.τ).loc Cert.GinRefIdeal.main_arg4) = m' ((c.tc : Thread Cert.GinRefIdeal.nD Cert.GinRefIdeal.τ).loc Cert.GinRefIdeal.main_arg4)
          ∧ r.2.mem ((c.tc : Thread Cert.GinRefIdeal.nD Cert.GinRefIdeal.τ).loc Cert.GinRefIdeal.main_arg5) = m' ((c.tc : Thread Cert.GinRefIdeal.nD Cert.GinRefIdeal.τ).loc Cert.GinRefIdeal.main_arg5))

def preserves_Core_CoreIdeal : Prop :=
  True

def Claim : Prop :=
  ∃ (hSgu : Cert.Sgu.Facts) (hSguIdeal : Cert.SguIdeal.Facts) (hSguRefIdeal : Cert.SguRefIdeal.Facts) (hMix : Cert.Mix.Facts) (hMixIdeal : Cert.MixIdeal.Facts) (hMixRefIdeal : Cert.MixRefIdeal.Facts) (hMid : Cert.Mid.Facts) (hMidIdeal : Cert.MidIdeal.Facts) (hMidRefIdeal : Cert.MidRefIdeal.Facts) (hGin : Cert.Gin.Facts) (hGinIdeal : Cert.GinIdeal.Facts) (hGinRefIdeal : Cert.GinRefIdeal.Facts) (hCore : Cert.Core.Facts) (hCoreIdeal : Cert.CoreIdeal.Facts),
    quiescent_Sgu (hSgu := hSgu)
    ∧ quiescent_SguIdeal (hSguIdeal := hSguIdeal)
    ∧ quiescent_SguRefIdeal (hSguRefIdeal := hSguRefIdeal)
    ∧ quiescent_Mix (hMix := hMix)
    ∧ quiescent_MixIdeal (hMixIdeal := hMixIdeal)
    ∧ quiescent_MixRefIdeal (hMixRefIdeal := hMixRefIdeal)
    ∧ quiescent_Mid (hMid := hMid)
    ∧ quiescent_MidIdeal (hMidIdeal := hMidIdeal)
    ∧ quiescent_MidRefIdeal (hMidRefIdeal := hMidRefIdeal)
    ∧ quiescent_Gin (hGin := hGin)
    ∧ quiescent_GinIdeal (hGinIdeal := hGinIdeal)
    ∧ quiescent_GinRefIdeal (hGinRefIdeal := hGinRefIdeal)
    ∧ quiescent_Core (hCore := hCore)
    ∧ quiescent_CoreIdeal (hCoreIdeal := hCoreIdeal)
    ∧ preserves_Sgu_SguIdeal
    ∧ algebraic_SguIdeal_SguRefIdeal (hSguIdeal := hSguIdeal) (hSguRefIdeal := hSguRefIdeal)
    ∧ preserves_Mix_MixIdeal
    ∧ algebraic_MixIdeal_MixRefIdeal (hMixIdeal := hMixIdeal) (hMixRefIdeal := hMixRefIdeal)
    ∧ preserves_Mid_MidIdeal
    ∧ algebraic_MidIdeal_MidRefIdeal (hMidIdeal := hMidIdeal) (hMidRefIdeal := hMidRefIdeal)
    ∧ preserves_Gin_GinIdeal
    ∧ algebraic_GinIdeal_GinRefIdeal (hGinIdeal := hGinIdeal) (hGinRefIdeal := hGinRefIdeal)
    ∧ preserves_Core_CoreIdeal
-- ==== Sgu.lean ====
abbrev S16x4096x1024 : Shape := ⟨3, ![16, 4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S1x1024 : Shape := ⟨2, ![1, 1024]⟩
abbrev S1x2048 : Shape := ⟨2, ![1, 2048]⟩
abbrev S128x8 : Shape := ⟨2, ![128, 8]⟩
abbrev S16x4096x2048 : Shape := ⟨3, ![16, 4096, 2048]⟩
abbrev S1x512x1024 : Shape := ⟨3, ![1, 512, 1024]⟩
abbrev S1x512x2048 : Shape := ⟨3, ![1, 512, 2048]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1024x512 : Shape := ⟨2, ![1024, 512]⟩
abbrev S512x512 : Shape := ⟨2, ![512, 512]⟩
abbrev S128x128 : Shape := ⟨2, ![128, 128]⟩
abbrev S1x128x128 : Shape := ⟨3, ![1, 128, 128]⟩
abbrev S128x1 : Shape := ⟨2, ![128, 1]⟩
abbrev S1024x256 : Shape := ⟨2, ![1024, 256]⟩
abbrev S512x256 : Shape := ⟨2, ![512, 256]⟩
abbrev S128x256 : Shape := ⟨2, ![128, 256]⟩
abbrev S1x128x256 : Shape := ⟨3, ![1, 128, 256]⟩

abbrev nBuf : Space → Nat
  | .hbm => 13
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S1x1024, .f32⟩
  | .hbm, ⟨8, _⟩ => ⟨S1024x4096, .bf16⟩
  | .hbm, ⟨9, _⟩ => ⟨S1x2048, .f32⟩
  | .hbm, ⟨10, _⟩ => ⟨S1x2048, .f32⟩
  | .hbm, ⟨11, _⟩ => ⟨S128x8, .f32⟩
  | .hbm, ⟨12, _⟩ => ⟨S16x4096x2048, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4096, .bf16⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x8, .f32⟩
  | .local _ .vmem, ⟨8, _⟩ => ⟨S1x512x2048, .bf16⟩
  | .local _ .vmem, ⟨9, _⟩ => ⟨S1x512x2048, .bf16⟩
  | .local _ .vmem, ⟨10, _⟩ => ⟨S512x2048, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== SguIdeal.lean ====
variable {F : FTy → Type} [FloatOps F] [Named F]
def κ : String → Option EReal := fun
  | "isqrt2" => some (((Real.sqrt 2)⁻¹ : ℝ) : EReal)
  | _ => none
-- ==== SguRefIdeal.lean ====
abbrev S16x4096x1024 : Shape := ⟨3, ![16, 4096, 1024]⟩
abbrev S1024 : Shape := ⟨1, ![1024]⟩
abbrev S1024x4096 : Shape := ⟨2, ![1024, 4096]⟩
abbrev S2048 : Shape := ⟨1, ![2048]⟩
abbrev S8x128x128 : Shape := ⟨3, ![8, 128, 128]⟩
abbrev S8x128 : Shape := ⟨2, ![8, 128]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4096 : Shape := ⟨3, ![16, 4096, 4096]⟩
abbrev S16x4096x2048 : Shape := ⟨3, ![16, 4096, 2048]⟩
abbrev S1x1x2048 : Shape := ⟨3, ![1, 1, 2048]⟩
abbrev S16x32x128x8x256 : Shape := ⟨5, ![16, 32, 128, 8, 256]⟩
abbrev S128x128 : Shape := ⟨2, ![128, 128]⟩
abbrev S8x16x32x256x128 : Shape := ⟨5, ![8, 16, 32, 256, 128]⟩
abbrev S128x8 : Shape := ⟨2, ![128, 8]⟩
abbrev S1x1x128x8x1 : Shape := ⟨5, ![1, 1, 128, 8, 1]⟩

abbrev nBuf : Space → Nat
  | .hbm => 89
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4096, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S16x4096x1024, .f32⟩
  | .hbm, ⟨8, _⟩ => ⟨S_, .f32⟩
  | .hbm, ⟨9, _⟩ => ⟨S16x4096, .f32⟩
  | .hbm, ⟨10, _⟩ => ⟨S16x4096x1, .f32⟩
  | .hbm, ⟨11, _⟩ => ⟨S_, .f32⟩
  | .hbm, ⟨12, _⟩ => ⟨S16x4096x1, .f32⟩
  | .hbm, ⟨13, _⟩ => ⟨S16x4096x1, .f32⟩
  | .hbm, ⟨14, _⟩ => ⟨S_, .f32⟩
  | .hbm, ⟨15, _⟩ => ⟨S16x4096x1, .f32⟩
  | .hbm, ⟨16, _⟩ => ⟨S16x4096x1, .f32⟩
  | .hbm, ⟨17, _⟩ => ⟨S16x4096x1, .f32⟩
  | .hbm, ⟨18, _⟩ => ⟨S16x4096x1024, .f32⟩
  | .hbm, ⟨19, _⟩ => ⟨S16x4096x1024, .f32⟩
  | .hbm, ⟨20, _⟩ => ⟨S1x1x1024, .f32⟩
  | .hbm, ⟨21, _⟩ => ⟨S16x4096x1024, .f32⟩
  | .hbm, ⟨22, _⟩ => ⟨S16x4096x1024, .f32⟩
  | .hbm, ⟨23, _⟩ => ⟨S16x4096x4096, .f32⟩
  | .hbm, ⟨24, _⟩ => ⟨S_, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S_, .f32⟩
  | .hbm, ⟨29, _⟩ => ⟨S_, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S16x4096x4096, .f32⟩
  | .hbm, ⟨34, _⟩ => ⟨S16x4096x2048, .f32⟩
  | .hbm, ⟨35, _⟩ => ⟨S16x4096x2048, .f32⟩
  | .hbm, ⟨36, _⟩ => ⟨S_, .f32⟩
  | .hbm, ⟨37, _⟩ => ⟨S16x4096, .f32⟩
  | .hbm, ⟨38, _⟩ => ⟨S16x4096x1, .f32⟩
  | .hbm, ⟨39, _⟩ => ⟨S_, .f32⟩
  | .hbm, ⟨40, _⟩ => ⟨S16x4096x1, .f32⟩
  | .hbm, ⟨41, _⟩ => ⟨S16x4096x1, .f32⟩
  | .hbm, ⟨42, _⟩ => ⟨S16x4096x2048, .f32⟩
  | .hbm, ⟨43, _⟩ => ⟨S16x4096x2048, .f32⟩
  | .hbm, ⟨44, _⟩ => ⟨S16x4096x2048, .f32⟩
  | .hbm, ⟨45, _⟩ => ⟨S_, .f32⟩
  | .hbm, ⟨46, _⟩ => ⟨S16x4096, .f32⟩
  | .hbm, ⟨47, _⟩ => ⟨S16x4096x1, .f32⟩
  | .hbm, ⟨48, _⟩ => ⟨S_, .f32⟩
  | .hbm, ⟨49, _⟩ => ⟨S16x4096x1, .f32⟩
  | .hbm, ⟨50, _⟩ => ⟨S16x4096x1, .f32⟩
  | .hbm, ⟨51, _⟩ => ⟨S_, .f32⟩
  | .hbm, ⟨52, _⟩ => ⟨S16x4096x1, .f32⟩
  | .hbm, ⟨53, _⟩ => ⟨S16x4096x1, .f32⟩
  | .hbm, ⟨54, _⟩ => ⟨S16x4096x1, .f32⟩
  | .hbm, ⟨55, _⟩ => ⟨S16x4096x2048, .f32⟩
  | .hbm, ⟨56, _⟩ => ⟨S16x4096x2048, .f32⟩
  | .hbm, ⟨57, _⟩ => ⟨S1x1x2048, .f32⟩
  | .hbm, ⟨58, _⟩ => ⟨S16x4096x2048, .f32⟩
  | .hbm, ⟨59, _⟩ => ⟨S16x4096x2048, .f32⟩
  | .hbm, ⟨60, _⟩ => ⟨S1x1x2048, .f32⟩
  | .hbm, ⟨61, _⟩ => ⟨S16x4096x2048, .f32⟩
  | .hbm, ⟨62, _⟩ => ⟨S16x4096x2048, .f32⟩
  | .hbm, ⟨63, _⟩ => ⟨S16x32x128x8x256, .f32⟩
  | .hbm, ⟨64, _⟩ => ⟨S_, .i1⟩
  | .hbm, ⟨65, _⟩ => ⟨S128x128, .i1⟩
  | .hbm, ⟨66, _⟩ => ⟨S128x128, .i32⟩
  | .hbm, ⟨67, _⟩ => ⟨S_, .i32⟩
  | .hbm, ⟨68, _⟩ => ⟨S128x128, .i32⟩
  | .hbm, ⟨69, _⟩ => ⟨S128x128, .i32⟩
  | .hbm, ⟨70, _⟩ => ⟨S128x128, .i32⟩
  | .hbm, ⟨71, _⟩ => ⟨S128x128, .i1⟩
  | .hbm, ⟨72, _⟩ => ⟨S_, .i1⟩
  | .hbm, ⟨73, _⟩ => ⟨S128x128, .i1⟩
  | .hbm, ⟨74, _⟩ => ⟨S128x128, .i1⟩
  | .hbm, ⟨75, _⟩ => ⟨S_, .f32⟩
  | .hbm, ⟨76, _⟩ => ⟨S_, .f32⟩
  | .hbm, ⟨77, _⟩ => ⟨S8x128x128, .i1⟩
  | .hbm, ⟨78, _⟩ => ⟨S8x128x128, .f32⟩
  | .hbm, ⟨79, _⟩ => ⟨S8x128x128, .f32⟩
  | .hbm, ⟨80, _⟩ => ⟨S8x16x32x256x128, .f32⟩
  | .hbm, ⟨81, _⟩ => ⟨S16x32x128x8x256, .f32⟩
  | .hbm, ⟨82, _⟩ => ⟨S128x8, .f32⟩
  | .hbm, ⟨83, _⟩ => ⟨S1x1x128x8x1, .f32⟩
  | .hbm, ⟨84, _⟩ => ⟨S16x32x128x8x256, .f32⟩
  | .hbm, ⟨85, _⟩ => ⟨S16x32x128x8x256, .f32⟩
  | .hbm, ⟨86, _⟩ => ⟨S16x4096x2048, .f32⟩
  | .hbm, ⟨87, _⟩ => ⟨S16x4096x2048, .f32⟩
  | .hbm, ⟨88, _⟩ => ⟨S16x4096x2048, .bf16⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c : Ref sig .tc := ⟨.hbm, 64, rfl⟩
abbrev main_v47 : Ref sig .tc := ⟨.hbm, 65, rfl⟩
abbrev main_call0_v0 : Ref sig .tc := ⟨.hbm, 66, rfl⟩
abbrev main_call0_c : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_c_0 : Ref sig .tc := ⟨.hbm, 72, rfl⟩
abbrev main_call0_v5 : Ref sig .tc := ⟨.hbm, 73, rfl⟩
abbrev main_v48 : Ref sig .tc := ⟨.hbm, 74, rfl⟩
abbrev main_cst_9 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩

abbrev nD : Nat := 1
abbrev τ : Topo := Topo.v7x

variable {F : FTy → Type} [FloatOps F]
-- ==== Mix.lean ====
abbrev S16x4096x1024 : Shape := ⟨3, ![16, 4096, 1024]⟩
abbrev S16x4096x2048 : Shape := ⟨3, ![16, 4096, 2048]⟩
abbrev S2048x1024 : Shape := ⟨2, ![2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S16x4096x256 : Shape := ⟨3, ![16, 4096, 256]⟩
abbrev S256x1024 : Shape := ⟨2, ![256, 1024]⟩
abbrev S1x1024 : Shape := ⟨2, ![1, 1024]⟩
abbrev S1x5632 : Shape := ⟨2, ![1, 5632]⟩
abbrev S1x512x1024 : Shape := ⟨3, ![1, 512, 1024]⟩
abbrev S1x512x2048 : Shape := ⟨3, ![1, 512, 2048]⟩
abbrev S1x512x256 : Shape := ⟨3, ![1, 512, 256]⟩
abbrev S520x256 : Shape := ⟨2, ![520, 256]⟩
abbrev S8x5632 : Shape := ⟨2, ![8, 5632]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩

abbrev nBuf : Space → Nat
  | .hbm => 23
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x4096x2048, .bf16⟩
  | .hbm, ⟨2, _⟩ => ⟨S2048x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S16x4096x256, .f32⟩
  | .hbm, ⟨11, _⟩ => ⟨S256x1024, .f32⟩
  | .hbm, ⟨12, _⟩ => ⟨S1024, .f32⟩
  | .hbm, ⟨13, _⟩ => ⟨S2048x1024, .bf16⟩
  | .hbm, ⟨14, _⟩ => ⟨S1x1024, .f32⟩
  | .hbm, ⟨15, _⟩ => ⟨S1024x5632, .bf16⟩
  | .hbm, ⟨16, _⟩ => ⟨S1x5632, .f32⟩
  | .hbm, ⟨17, _⟩ => ⟨S2816x1024, .bf16⟩
  | .hbm, ⟨18, _⟩ => ⟨S1x1024, .f32⟩
  | .hbm, ⟨19, _⟩ => ⟨S1024x1024, .bf16⟩
  | .hbm, ⟨20, _⟩ => ⟨S256x1024, .bf16⟩
  | .hbm, ⟨21, _⟩ => ⟨S1x1024, .f32⟩
  | .hbm, ⟨22, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x2048, .bf16⟩
  | .local _ .vmem, ⟨3, _⟩ => ⟨S1x512x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S1024x1024, .bf16⟩
  | .local _ .vmem, ⟨12, _⟩ => ⟨S1x512x256, .f32⟩
  | .local _ .vmem, ⟨13, _⟩ => ⟨S1x512x256, .f32⟩
  | .local _ .vmem, ⟨14, _⟩ => ⟨S256x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S520x256, .f32⟩
  | .local _ .vmem, ⟨19, _⟩ => ⟨S8x5632, .f32⟩
  | .local _ .vmem, ⟨20, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MixRefIdeal.lean ====
abbrev S16x4096x1024 : Shape := ⟨3, ![16, 4096, 1024]⟩
abbrev S16x4096x2048 : Shape := ⟨3, ![16, 4096, 2048]⟩
abbrev S2048x1024 : Shape := ⟨2, ![2048, 1024]⟩
abbrev S1024 : Shape := ⟨1, ![1024]⟩
abbrev S1024x5632 : Shape := ⟨2, ![1024, 5632]⟩
abbrev S3x5632 : Shape := ⟨2, ![3, 5632]⟩
abbrev S5632 : Shape := ⟨1, ![5632]⟩
abbrev S2816x1024 : Shape := ⟨2, ![2816, 1024]⟩
abbrev S1024x1024 : Shape := ⟨2, ![1024, 1024]⟩
abbrev S16x4096x256 : Shape := ⟨3, ![16, 4096, 256]⟩
abbrev S256x1024 : Shape := ⟨2, ![256, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x5632 : Shape := ⟨3, ![16, 4096, 5632]⟩
abbrev S16x4098x5632 : Shape := ⟨3, ![16, 4098, 5632]⟩
abbrev S1x5632 : Shape := ⟨2, ![1, 5632]⟩
abbrev S1x1x5632 : Shape := ⟨3, ![1, 1, 5632]⟩
abbrev S16x4096x2816 : Shape := ⟨3, ![16, 4096, 2816]⟩

abbrev nBuf : Space → Nat
  | .hbm => 120
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x2048, .bf16⟩
  | .hbm, ⟨2, _⟩ => ⟨S2048x1024, .f32⟩
  | .hbm, ⟨3, _⟩ => ⟨S1024, .f32⟩
  | .hbm, ⟨4, _⟩ => ⟨S1024x5632, .f32⟩
  | .hbm, ⟨5, _⟩ => ⟨S3x5632, .f32⟩
  | .hbm, ⟨6, _⟩ => ⟨S5632, .f32⟩
  | .hbm, ⟨7, _⟩ => ⟨S2816x1024, .f32⟩
  | .hbm, ⟨8, _⟩ => ⟨S1024, .f32⟩
  | .hbm, ⟨9, _⟩ => ⟨S1024x1024, .f32⟩
  | .hbm, ⟨10, _⟩ => ⟨S16x4096x256, .f32⟩
  | .hbm, ⟨11, _⟩ => ⟨S256x1024, .f32⟩
  | .hbm, ⟨12, _⟩ => ⟨S1024, .f32⟩
  | .hbm, ⟨13, _⟩ => ⟨S16x4096x2048, .f32⟩
  | .hbm, ⟨14, _⟩ => ⟨S16x4096x1024, .f32⟩
  | .hbm, ⟨15, _⟩ => ⟨S16x4096x1024, .f32⟩
  | .hbm, ⟨16, _⟩ => ⟨S16x4096x1024, .f32⟩
  | .hbm, ⟨17, _⟩ => ⟨S_, .f32⟩
  | .hbm, ⟨18, _⟩ => ⟨S16x4096, .f32⟩
  | .hbm, ⟨19, _⟩ => ⟨S16x4096x1, .f32⟩
  | .hbm, ⟨20, _⟩ => ⟨S_, .f32⟩
  | .hbm, ⟨21, _⟩ => ⟨S16x4096x1, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S16x4096x1, .f32⟩
  | .hbm, ⟨27, _⟩ => ⟨S16x4096x1024, .f32⟩
  | .hbm, ⟨28, _⟩ => ⟨S16x4096x1024, .f32⟩
  | .hbm, ⟨29, _⟩ => ⟨S1x1x1024, .f32⟩
  | .hbm, ⟨30, _⟩ => ⟨S16x4096x1024, .f32⟩
  | .hbm, ⟨31, _⟩ => ⟨S16x4096x1024, .f32⟩
  | .hbm, ⟨32, _⟩ => ⟨S16x4096x5632, .f32⟩
  | .hbm, ⟨33, _⟩ => ⟨S_, .i32⟩
  | .hbm, ⟨34, _⟩ => ⟨S_, .f32⟩
  | .hbm, ⟨35, _⟩ => ⟨S16x4098x5632, .f32⟩
  | .hbm, ⟨36, _⟩ => ⟨S16x4096x5632, .f32⟩
  | .hbm, ⟨37, _⟩ => ⟨S1x5632, .f32⟩
  | .hbm, ⟨38, _⟩ => ⟨S5632, .f32⟩
  | .hbm, ⟨39, _⟩ => ⟨S1x1x5632, .f32⟩
  | .hbm, ⟨40, _⟩ => ⟨S16x4096x5632, .f32⟩
  | .hbm, ⟨41, _⟩ => ⟨S16x4096x5632, .f32⟩
  | .hbm, ⟨42, _⟩ => ⟨S_, .f32⟩
  | .hbm, ⟨43, _⟩ => ⟨S16x4096x5632, .f32⟩
  | .hbm, ⟨44, _⟩ => ⟨S16x4096x5632, .f32⟩
  | .hbm, ⟨45, _⟩ => ⟨S16x4096x5632, .f32⟩
  | .hbm, ⟨46, _⟩ => ⟨S1x5632, .f32⟩
  | .hbm, ⟨47, _⟩ => ⟨S5632, .f32⟩
  | .hbm, ⟨48, _⟩ => ⟨S1x1x5632, .f32⟩
  | .hbm, ⟨49, _⟩ => ⟨S16x4096x5632, .f32⟩
  | .hbm, ⟨50, _⟩ => ⟨S16x4096x5632, .f32⟩
  | .hbm, ⟨51, _⟩ => ⟨S16x4096x5632, .f32⟩
  | .hbm, ⟨52, _⟩ => ⟨S16x4096x5632, .f32⟩
  | .hbm, ⟨53, _⟩ => ⟨S1x5632, .f32⟩
  | .hbm, ⟨54, _⟩ => ⟨S5632, .f32⟩
  | .hbm, ⟨55, _⟩ => ⟨S1x1x5632, .f32⟩
  | .hbm, ⟨56, _⟩ => ⟨S16x4096x5632, .f32⟩
  | .hbm, ⟨57, _⟩ => ⟨S16x4096x5632, .f32⟩
  | .hbm, ⟨58, _⟩ => ⟨S16x4096x5632, .f32⟩
  | .hbm, ⟨59, _⟩ => ⟨S1x1x5632, .f32⟩
  | .hbm, ⟨60, _⟩ => ⟨S16x4096x5632, .f32⟩
  | .hbm, ⟨61, _⟩ => ⟨S16x4096x5632, .f32⟩
  | .hbm, ⟨62, _⟩ => ⟨S16x4096x2816, .f32⟩
  | .hbm, ⟨63, _⟩ => ⟨S16x4096x2816, .f32⟩
  | .hbm, ⟨64, _⟩ => ⟨S16x4096x2816, .f32⟩
  | .hbm, ⟨65, _⟩ => ⟨S16x4096x2816, .f32⟩
  | .hbm, ⟨66, _⟩ => ⟨S_, .f32⟩
  | .hbm, ⟨67, _⟩ => ⟨S16x4096x2816, .f32⟩
  | .hbm, ⟨68, _⟩ => ⟨S16x4096x2816, .f32⟩
  | .hbm, ⟨69, _⟩ => ⟨S_, .f32⟩
  | .hbm, ⟨70, _⟩ => ⟨S16x4096x2816, .f32⟩
  | .hbm, ⟨71, _⟩ => ⟨S16x4096x2816, .f32⟩
  | .hbm, ⟨72, _⟩ => ⟨S16x4096x2816, .f32⟩
  | .hbm, ⟨73, _⟩ => ⟨S16x4096x2816, .f32⟩
  | .hbm, ⟨74, _⟩ => ⟨S16x4096x1024, .f32⟩
  | .hbm, ⟨75, _⟩ => ⟨S16x4096x1024, .f32⟩
  | .hbm, ⟨76, _⟩ => ⟨S16x4096x1024, .f32⟩
  | .hbm, ⟨77, _⟩ => ⟨S_, .f32⟩
  | .hbm, ⟨78, _⟩ => ⟨S16x4096, .f32⟩
  | .hbm, ⟨79, _⟩ => ⟨S16x4096x1, .f32⟩
  | .hbm, ⟨80, _⟩ => ⟨S_, .f32⟩
  | .hbm, ⟨81, _⟩ => ⟨S16x4096x1, .f32⟩
  | .hbm, ⟨82, _⟩ => ⟨S16x4096x1, .f32⟩
  | .hbm, ⟨83, _⟩ => ⟨S_, .f32⟩
  | .hbm, ⟨84, _⟩ => ⟨S16x4096x1, .f32⟩
  | .hbm, ⟨85, _⟩ => ⟨S16x4096x1, .f32⟩
  | .hbm, ⟨86, _⟩ => ⟨S16x4096x1, .f32⟩
  | .hbm, ⟨87, _⟩ => ⟨S16x4096x1024, .f32⟩
  | .hbm, ⟨88, _⟩ => ⟨S16x4096x1024, .f32⟩
  | .hbm, ⟨89, _⟩ => ⟨S1x1x1024, .f32⟩
  | .hbm, ⟨90, _⟩ => ⟨S16x4096x1024, .f32⟩
  | .hbm, ⟨91, _⟩ => ⟨S16x4096x1024, .f32⟩
  | .hbm, ⟨92, _⟩ => ⟨S16x4096x1024, .f32⟩
  | .hbm, ⟨93, _⟩ => ⟨S16x4096x1024, .f32⟩
  | .hbm, ⟨94, _⟩ => ⟨S16x4096x1024, .f32⟩
  | .hbm, ⟨95, _⟩ => ⟨S_, .f32⟩
  | .hbm, ⟨96, _⟩ => ⟨S16x4096x1024, .f32⟩
  | .hbm, ⟨97, _⟩ => ⟨S16x4096x1024, .f32⟩
  | .hbm, ⟨98, _⟩ => ⟨S_, .f32⟩
  | .hbm, ⟨99, _⟩ => ⟨S16x4096x1024, .f32⟩
  | .hbm, ⟨100, _⟩ => ⟨S16x4096x1024, .f32⟩
  | .hbm, ⟨101, _⟩ => ⟨S16x4096x1024, .f32⟩
  | .hbm, ⟨102, _⟩ => ⟨S16x4096x1024, .f32⟩
  | .hbm, ⟨103, _⟩ => ⟨S16x4096x1024, .f32⟩
  | .hbm, ⟨104, _⟩ => ⟨S16x4096x1024, .f32⟩
  | .hbm, ⟨105, _⟩ => ⟨S_, .f32⟩
  | .hbm, ⟨106, _⟩ => ⟨S16x4096, .f32⟩
  | .hbm, ⟨107, _⟩ => ⟨S16x4096x1, .f32⟩
  | .hbm, ⟨108, _⟩ => ⟨S_, .f32⟩
  | .hbm, ⟨109, _⟩ => ⟨S16x4096x1, .f32⟩
  | .hbm, ⟨110, _⟩ => ⟨S16x4096x1, .f32⟩
  | .hbm, ⟨111, _⟩ => ⟨S_, .f32⟩
  | .hbm, ⟨112, _⟩ => ⟨S16x4096x1, .f32⟩
  | .hbm, ⟨113, _⟩ => ⟨S16x4096x1, .f32⟩
  | .hbm, ⟨114, _⟩ => ⟨S16x4096x1, .f32⟩
  | .hbm, ⟨115, _⟩ => ⟨S16x4096x1024, .f32⟩
  | .hbm, ⟨116, _⟩ => ⟨S16x4096x1024, .f32⟩
  | .hbm, ⟨117, _⟩ => ⟨S1x1x1024, .f32⟩
  | .hbm, ⟨118, _⟩ => ⟨S16x4096x1024, .f32⟩
  | .hbm, ⟨119, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_call1_v0 : Ref sig .tc := ⟨.hbm, 64, rfl⟩
abbrev main_call1_v1 : Ref sig .tc := ⟨.hbm, 65, rfl⟩
abbrev main_call1_cst : Ref sig .tc := ⟨.hbm, 66, rfl⟩
abbrev main_call1_v2 : Ref sig .tc := ⟨.hbm, 67, rfl⟩
abbrev main_call1_v3 : Ref sig .tc := ⟨.hbm, 68, rfl⟩
abbrev main_call1_cst_0 : Ref sig .tc := ⟨.hbm, 69, rfl⟩
abbrev main_call1_v4 : Ref sig .tc := ⟨.hbm, 70, rfl⟩
abbrev main_call1_v5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_3 : Ref sig .tc := ⟨.hbm, 77, rfl⟩
abbrev main_v50 : Ref sig .tc := ⟨.hbm, 78, rfl⟩
abbrev main_v51 : Ref sig .tc := ⟨.hbm, 79, rfl⟩
abbrev main_cst_4 : Ref sig .tc := ⟨.hbm, 80, rfl⟩
abbrev main_v52 : Ref sig .tc := ⟨.hbm, 81, rfl⟩
abbrev main_v53 : Ref sig .tc := ⟨.hbm, 82, rfl⟩
abbrev main_cst_5 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_6 : Ref sig .tc := ⟨.hbm, 95, rfl⟩
abbrev main_v65 : Ref sig .tc := ⟨.hbm, 96, rfl⟩
abbrev main_v66 : Ref sig .tc := ⟨.hbm, 97, rfl⟩
abbrev main_cst_7 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_cst_8 : Ref sig .tc := ⟨.hbm, 105, rfl⟩
abbrev main_v73 : Ref sig .tc := ⟨.hbm, 106, rfl⟩
abbrev main_v74 : Ref sig .tc := ⟨.hbm, 107, rfl⟩
abbrev main_cst_9 : Ref sig .tc := ⟨.hbm, 108, rfl⟩
abbrev main_v75 : Ref sig .tc := ⟨.hbm, 109, rfl⟩
abbrev main_v76 : Ref sig .tc := ⟨.hbm, 110, rfl⟩
abbrev main_cst_10 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩

abbrev nD : Nat := 1
abbrev τ : Topo := Topo.v7x

variable {F : FTy → Type} [FloatOps F]
-- ==== Mid.lean ====
abbrev S16x4096x1024 : Shape := ⟨3, ![16, 4096, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1024x1024 : Shape := ⟨3, ![2, 1024, 1024]⟩
abbrev S2x16x4096x256 : Shape := ⟨4, ![2, 16, 4096, 256]⟩
abbrev S2x256x1024 : Shape := ⟨3, ![2, 256, 1024]⟩
abbrev S1024 : Shape := ⟨1, ![1024]⟩
abbrev S1024x1024 : Shape := ⟨2, ![1024, 1024]⟩
abbrev S1x1024 : Shape := ⟨2, ![1, 1024]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S1x16x4096x256 : Shape := ⟨4, ![1, 16, 4096, 256]⟩
abbrev S16x4096x256 : Shape := ⟨3, ![16, 4096, 256]⟩
abbrev S1x256x1024 : Shape := ⟨3, ![1, 256, 1024]⟩
abbrev S256x1024 : Shape := ⟨2, ![256, 1024]⟩
abbrev S1x512x1024 : Shape := ⟨3, ![1, 512, 1024]⟩
abbrev S1x512x256 : Shape := ⟨3, ![1, 512, 256]⟩
abbrev S520x256 : Shape := ⟨2, ![520, 256]⟩
abbrev S8x5632 : Shape := ⟨2, ![8, 5632]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S8x256 : Shape := ⟨2, ![8, 256]⟩
abbrev S1x256 : Shape := ⟨2, ![1, 256]⟩

abbrev nBuf : Space → Nat
  | .hbm => 42
  | .vmem => 21
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1024, .f32⟩
  | .hbm, ⟨9, _⟩ => ⟨S2x1024x1024, .f32⟩
  | .hbm, ⟨10, _⟩ => ⟨S2x16x4096x256, .f32⟩
  | .hbm, ⟨11, _⟩ => ⟨S2x256x1024, .f32⟩
  | .hbm, ⟨12, _⟩ => ⟨S1024, .f32⟩
  | .hbm, ⟨13, _⟩ => ⟨S1024x1024, .f32⟩
  | .hbm, ⟨14, _⟩ => ⟨S1024x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024x5632, .f32⟩
  | .hbm, ⟨19, _⟩ => ⟨S1024x5632, .f32⟩
  | .hbm, ⟨20, _⟩ => ⟨S1024x5632, .bf16⟩
  | .hbm, ⟨21, _⟩ => ⟨S1x3x5632, .f32⟩
  | .hbm, ⟨22, _⟩ => ⟨S3x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S1x2816x1024, .f32⟩
  | .hbm, ⟨27, _⟩ => ⟨S2816x1024, .f32⟩
  | .hbm, ⟨28, _⟩ => ⟨S2816x1024, .bf16⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S1x1024x1024, .f32⟩
  | .hbm, ⟨33, _⟩ => ⟨S1024x1024, .f32⟩
  | .hbm, ⟨34, _⟩ => ⟨S1024x1024, .bf16⟩
  | .hbm, ⟨35, _⟩ => ⟨S1x16x4096x256, .f32⟩
  | .hbm, ⟨36, _⟩ => ⟨S16x4096x256, .f32⟩
  | .hbm, ⟨37, _⟩ => ⟨S1x256x1024, .f32⟩
  | .hbm, ⟨38, _⟩ => ⟨S256x1024, .f32⟩
  | .hbm, ⟨39, _⟩ => ⟨S256x1024, .bf16⟩
  | .hbm, ⟨40, _⟩ => ⟨S1x1024, .f32⟩
  | .hbm, ⟨41, _⟩ => ⟨S16x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x5632, .bf16⟩
  | .local _ .vmem, ⟨7, _⟩ => ⟨S3x5632, .f32⟩
  | .local _ .vmem, ⟨8, _⟩ => ⟨S1x5632, .f32⟩
  | .local _ .vmem, ⟨9, _⟩ => ⟨S2816x1024, .bf16⟩
  | .local _ .vmem, ⟨10, _⟩ => ⟨S1x1024, .f32⟩
  | .local _ .vmem, ⟨11, _⟩ => ⟨S1024x1024, .bf16⟩
  | .local _ .vmem, ⟨12, _⟩ => ⟨S1x512x256, .f32⟩
  | .local _ .vmem, ⟨13, _⟩ => ⟨S1x512x256, .f32⟩
  | .local _ .vmem, ⟨14, _⟩ => ⟨S256x1024, .bf16⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S520x256, .f32⟩
  | .local _ .vmem, ⟨19, _⟩ => ⟨S8x5632, .f32⟩
  | .local _ .vmem, ⟨20, _⟩ => ⟨S512x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem12_0 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MidRefIdeal.lean ====
abbrev S16x4096x1024 : Shape := ⟨3, ![16, 4096, 1024]⟩
abbrev S1x1024x1024 : Shape := ⟨3, ![1, 1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1024x1024 : Shape := ⟨3, ![2, 1024, 1024]⟩
abbrev S2x16x4096x256 : Shape := ⟨4, ![2, 16, 4096, 256]⟩
abbrev S2x256x1024 : Shape := ⟨3, ![2, 256, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S1x1024x5632 : Shape := ⟨3, ![1, 1024, 5632]⟩
abbrev S1024x5632 : Shape := ⟨2, ![1024, 5632]⟩
abbrev S16x4096x5632 : Shape := ⟨3, ![16, 4096, 5632]⟩
abbrev S1x3x5632 : Shape := ⟨3, ![1, 3, 5632]⟩
abbrev S3x5632 : Shape := ⟨2, ![3, 5632]⟩
abbrev S3x1x5632 : Shape := ⟨3, ![3, 1, 5632]⟩
abbrev S16x4098x5632 : Shape := ⟨3, ![16, 4098, 5632]⟩
abbrev S1x1x5632 : Shape := ⟨3, ![1, 1, 5632]⟩
abbrev S1x5632 : Shape := ⟨2, ![1, 5632]⟩
abbrev S5632 : Shape := ⟨1, ![5632]⟩
abbrev S16x4096x2816 : Shape := ⟨3, ![16, 4096, 2816]⟩
abbrev S1x2816x1024 : Shape := ⟨3, ![1, 2816, 1024]⟩
abbrev S2816x1024 : Shape := ⟨2, ![2816, 1024]⟩
abbrev S1x16x4096x256 : Shape := ⟨4, ![1, 16, 4096, 256]⟩
abbrev S16x4096x256 : Shape := ⟨3, ![16, 4096, 256]⟩
abbrev S1x256x1024 : Shape := ⟨3, ![1, 256, 1024]⟩
abbrev S256x1024 : Shape := ⟨2, ![256, 1024]⟩

abbrev nBuf : Space → Nat
  | .hbm => 124
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x4096x1024, .bf16⟩
  | .hbm, ⟨2, _⟩ => ⟨S1x1024x1024, .f32⟩
  | .hbm, ⟨3, _⟩ => ⟨S2x1024, .f32⟩
  | .hbm, ⟨4, _⟩ => ⟨S2x1024x5632, .f32⟩
  | .hbm, ⟨5, _⟩ => ⟨S2x3x5632, .f32⟩
  | .hbm, ⟨6, _⟩ => ⟨S2x5632, .f32⟩
  | .hbm, ⟨7, _⟩ => ⟨S2x2816x1024, .f32⟩
  | .hbm, ⟨8, _⟩ => ⟨S2x1024, .f32⟩
  | .hbm, ⟨9, _⟩ => ⟨S2x1024x1024, .f32⟩
  | .hbm, ⟨10, _⟩ => ⟨S2x16x4096x256, .f32⟩
  | .hbm, ⟨11, _⟩ => ⟨S2x256x1024, .f32⟩
  | .hbm, ⟨12, _⟩ => ⟨S1024, .f32⟩
  | .hbm, ⟨13, _⟩ => ⟨S16x4096x1024, .f32⟩
  | .hbm, ⟨14, _⟩ => ⟨S1024x1024, .f32⟩
  | .hbm, ⟨15, _⟩ => ⟨S16x4096x1024, .f32⟩
  | .hbm, ⟨16, _⟩ => ⟨S16x4096x1024, .f32⟩
  | .hbm, ⟨17, _⟩ => ⟨S1x1024, .f32⟩
  | .hbm, ⟨18, _⟩ => ⟨S1024, .f32⟩
  | .hbm, ⟨19, _⟩ => ⟨S16x4096x1024, .f32⟩
  | .hbm, ⟨20, _⟩ => ⟨S_, .f32⟩
  | .hbm, ⟨21, _⟩ => ⟨S16x4096, .f32⟩
  | .hbm, ⟨22, _⟩ => ⟨S16x4096x1, .f32⟩
  | .hbm, ⟨23, _⟩ => ⟨S_, .f32⟩
  | .hbm, ⟨24, _⟩ => ⟨S16x4096x1, .f32⟩
  | .hbm, ⟨25, _⟩ => ⟨S16x4096x1, .f32⟩
  | .hbm, ⟨26, _⟩ => ⟨S_, .f32⟩
  | .hbm, ⟨27, _⟩ => ⟨S16x4096x1, .f32⟩
  | .hbm, ⟨28, _⟩ => ⟨S16x4096x1, .f32⟩
  | .hbm, ⟨29, _⟩ => ⟨S16x4096x1, .f32⟩
  | .hbm, ⟨30, _⟩ => ⟨S16x4096x1024, .f32⟩
  | .hbm, ⟨31, _⟩ => ⟨S16x4096x1024, .f32⟩
  | .hbm, ⟨32, _⟩ => ⟨S1x1x1024, .f32⟩
  | .hbm, ⟨33, _⟩ => ⟨S16x4096x1024, .f32⟩
  | .hbm, ⟨34, _⟩ => ⟨S16x4096x1024, .f32⟩
  | .hbm, ⟨35, _⟩ => ⟨S1x1024x5632, .f32⟩
  | .hbm, ⟨36, _⟩ => ⟨S1024x5632, .f32⟩
  | .hbm, ⟨37, _⟩ => ⟨S16x4096x5632, .f32⟩
  | .hbm, ⟨38, _⟩ => ⟨S1x3x5632, .f32⟩
  | .hbm, ⟨39, _⟩ => ⟨S3x5632, .f32⟩
  | .hbm, ⟨40, _⟩ => ⟨S3x1x5632, .f32⟩
  | .hbm, ⟨41, _⟩ => ⟨S_, .i32⟩
  | .hbm, ⟨42, _⟩ => ⟨S_, .f32⟩
  | .hbm, ⟨43, _⟩ => ⟨S16x4098x5632, .f32⟩
  | .hbm, ⟨44, _⟩ => ⟨S16x4096x5632, .f32⟩
  | .hbm, ⟨45, _⟩ => ⟨S1x1x5632, .f32⟩
  | .hbm, ⟨46, _⟩ => ⟨S1x5632, .f32⟩
  | .hbm, ⟨47, _⟩ => ⟨S1x1x5632, .f32⟩
  | .hbm, ⟨48, _⟩ => ⟨S16x4096x5632, .f32⟩
  | .hbm, ⟨49, _⟩ => ⟨S16x4096x5632, .f32⟩
  | .hbm, ⟨50, _⟩ => ⟨S_, .f32⟩
  | .hbm, ⟨51, _⟩ => ⟨S16x4096x5632, .f32⟩
  | .hbm, ⟨52, _⟩ => ⟨S16x4096x5632, .f32⟩
  | .hbm, ⟨53, _⟩ => ⟨S16x4096x5632, .f32⟩
  | .hbm, ⟨54, _⟩ => ⟨S1x1x5632, .f32⟩
  | .hbm, ⟨55, _⟩ => ⟨S1x5632, .f32⟩
  | .hbm, ⟨56, _⟩ => ⟨S1x1x5632, .f32⟩
  | .hbm, ⟨57, _⟩ => ⟨S16x4096x5632, .f32⟩
  | .hbm, ⟨58, _⟩ => ⟨S16x4096x5632, .f32⟩
  | .hbm, ⟨59, _⟩ => ⟨S16x4096x5632, .f32⟩
  | .hbm, ⟨60, _⟩ => ⟨S16x4096x5632, .f32⟩
  | .hbm, ⟨61, _⟩ => ⟨S1x1x5632, .f32⟩
  | .hbm, ⟨62, _⟩ => ⟨S1x5632, .f32⟩
  | .hbm, ⟨63, _⟩ => ⟨S1x1x5632, .f32⟩
  | .hbm, ⟨64, _⟩ => ⟨S16x4096x5632, .f32⟩
  | .hbm, ⟨65, _⟩ => ⟨S16x4096x5632, .f32⟩
  | .hbm, ⟨66, _⟩ => ⟨S16x4096x5632, .f32⟩
  | .hbm, ⟨67, _⟩ => ⟨S1x5632, .f32⟩
  | .hbm, ⟨68, _⟩ => ⟨S5632, .f32⟩
  | .hbm, ⟨69, _⟩ => ⟨S1x1x5632, .f32⟩
  | .hbm, ⟨70, _⟩ => ⟨S16x4096x5632, .f32⟩
  | .hbm, ⟨71, _⟩ => ⟨S16x4096x5632, .f32⟩
  | .hbm, ⟨72, _⟩ => ⟨S16x4096x2816, .f32⟩
  | .hbm, ⟨73, _⟩ => ⟨S16x4096x2816, .f32⟩
  | .hbm, ⟨74, _⟩ => ⟨S16x4096x2816, .f32⟩
  | .hbm, ⟨75, _⟩ => ⟨S16x4096x2816, .f32⟩
  | .hbm, ⟨76, _⟩ => ⟨S_, .f32⟩
  | .hbm, ⟨77, _⟩ => ⟨S16x4096x2816, .f32⟩
  | .hbm, ⟨78, _⟩ => ⟨S16x4096x2816, .f32⟩
  | .hbm, ⟨79, _⟩ => ⟨S_, .f32⟩
  | .hbm, ⟨80, _⟩ => ⟨S16x4096x2816, .f32⟩
  | .hbm, ⟨81, _⟩ => ⟨S16x4096x2816, .f32⟩
  | .hbm, ⟨82, _⟩ => ⟨S16x4096x2816, .f32⟩
  | .hbm, ⟨83, _⟩ => ⟨S16x4096x2816, .f32⟩
  | .hbm, ⟨84, _⟩ => ⟨S1x2816x1024, .f32⟩
  | .hbm, ⟨85, _⟩ => ⟨S2816x1024, .f32⟩
  | .hbm, ⟨86, _⟩ => ⟨S16x4096x1024, .f32⟩
  | .hbm, ⟨87, _⟩ => ⟨S16x4096x1024, .f32⟩
  | .hbm, ⟨88, _⟩ => ⟨S1x1024, .f32⟩
  | .hbm, ⟨89, _⟩ => ⟨S1024, .f32⟩
  | .hbm, ⟨90, _⟩ => ⟨S16x4096x1024, .f32⟩
  | .hbm, ⟨91, _⟩ => ⟨S_, .f32⟩
  | .hbm, ⟨92, _⟩ => ⟨S16x4096, .f32⟩
  | .hbm, ⟨93, _⟩ => ⟨S16x4096x1, .f32⟩
  | .hbm, ⟨94, _⟩ => ⟨S_, .f32⟩
  | .hbm, ⟨95, _⟩ => ⟨S16x4096x1, .f32⟩
  | .hbm, ⟨96, _⟩ => ⟨S16x4096x1, .f32⟩
  | .hbm, ⟨97, _⟩ => ⟨S_, .f32⟩
  | .hbm, ⟨98, _⟩ => ⟨S16x4096x1, .f32⟩
  | .hbm, ⟨99, _⟩ => ⟨S16x4096x1, .f32⟩
  | .hbm, ⟨100, _⟩ => ⟨S16x4096x1, .f32⟩
  | .hbm, ⟨101, _⟩ => ⟨S16x4096x1024, .f32⟩
  | .hbm, ⟨102, _⟩ => ⟨S16x4096x1024, .f32⟩
  | .hbm, ⟨103, _⟩ => ⟨S1x1x1024, .f32⟩
  | .hbm, ⟨104, _⟩ => ⟨S16x4096x1024, .f32⟩
  | .hbm, ⟨105, _⟩ => ⟨S16x4096x1024, .f32⟩
  | .hbm, ⟨106, _⟩ => ⟨S1x1024x1024, .f32⟩
  | .hbm, ⟨107, _⟩ => ⟨S1024x1024, .f32⟩
  | .hbm, ⟨108, _⟩ => ⟨S16x4096x1024, .f32⟩
  | .hbm, ⟨109, _⟩ => ⟨S16x4096x1024, .f32⟩
  | .hbm, ⟨110, _⟩ => ⟨S16x4096x1024, .f32⟩
  | .hbm, ⟨111, _⟩ => ⟨S_, .f32⟩
  | .hbm, ⟨112, _⟩ => ⟨S16x4096x1024, .f32⟩
  | .hbm, ⟨113, _⟩ => ⟨S16x4096x1024, .f32⟩
  | .hbm, ⟨114, _⟩ => ⟨S_, .f32⟩
  | .hbm, ⟨115, _⟩ => ⟨S16x4096x1024, .f32⟩
  | .hbm, ⟨116, _⟩ => ⟨S16x4096x1024, .f32⟩
  | .hbm, ⟨117, _⟩ => ⟨S1x16x4096x256, .f32⟩
  | .hbm, ⟨118, _⟩ => ⟨S16x4096x256, .f32⟩
  | .hbm, ⟨119, _⟩ => ⟨S1x256x1024, .f32⟩
  | .hbm, ⟨120, _⟩ => ⟨S256x1024, .f32⟩
  | .hbm, ⟨121, _⟩ => ⟨S16x4096x1024, .f32⟩
  | .hbm, ⟨122, _⟩ => ⟨S16x4096x1024, .f32⟩
  | .hbm, ⟨123, _⟩ => ⟨S16x4096x1024, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c : Ref sig .tc := ⟨.hbm, 41, rfl⟩
abbrev main_call0_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_2 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_call1_v0 : Ref sig .tc := ⟨.hbm, 74, rfl⟩
abbrev main_call1_v1 : Ref sig .tc := ⟨.hbm, 75, rfl⟩
abbrev main_call1_cst : Ref sig .tc := ⟨.hbm, 76, rfl⟩
abbrev main_call1_v2 : Ref sig .tc := ⟨.hbm, 77, rfl⟩
abbrev main_call1_v3 : Ref sig .tc := ⟨.hbm, 78, rfl⟩
abbrev main_call1_cst_0 : Ref sig .tc := ⟨.hbm, 79, rfl⟩
abbrev main_call1_v4 : Ref sig .tc := ⟨.hbm, 80, rfl⟩
abbrev main_call1_v5 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_3 : Ref sig .tc := ⟨.hbm, 91, rfl⟩
abbrev main_v64 : Ref sig .tc := ⟨.hbm, 92, rfl⟩
abbrev main_v65 : Ref sig .tc := ⟨.hbm, 93, rfl⟩
abbrev main_cst_4 : Ref sig .tc := ⟨.hbm, 94, rfl⟩
abbrev main_v66 : Ref sig .tc := ⟨.hbm, 95, rfl⟩
abbrev main_v67 : Ref sig .tc := ⟨.hbm, 96, rfl⟩
abbrev main_cst_5 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_cst_6 : Ref sig .tc := ⟨.hbm, 111, rfl⟩
abbrev main_v81 : Ref sig .tc := ⟨.hbm, 112, rfl⟩
abbrev main_v82 : Ref sig .tc := ⟨.hbm, 113, rfl⟩
abbrev main_cst_7 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩

abbrev nD : Nat := 1
abbrev τ : Topo := Topo.v7x

variable {F : FTy → Type} [FloatOps F]
-- ==== Gin.lean ====
abbrev S16x4096x1024 : Shape := ⟨3, ![16, 4096, 1024]⟩
abbrev S1024 : Shape := ⟨1, ![1024]⟩
abbrev S1024x4112 : Shape := ⟨2, ![1024, 4112]⟩
abbrev S4x3072 : Shape := ⟨2, ![4, 3072]⟩
abbrev S8 : Shape := ⟨1, ![8]⟩
abbrev S1024x4096 : Shape := ⟨2, ![1024, 4096]⟩
abbrev S1024x16 : Shape := ⟨2, ![1024, 16]⟩
abbrev S16x1024 : Shape := ⟨2, ![16, 1024]⟩
abbrev S1x1024 : Shape := ⟨2, ![1, 1024]⟩
abbrev S8x1 : Shape := ⟨2, ![8, 1]⟩
abbrev S16x8x4096 : Shape := ⟨3, ![16, 8, 4096]⟩
abbrev S1x512x1024 : Shape := ⟨3, ![1, 512, 1024]⟩
abbrev S1x8x512 : Shape := ⟨3, ![1, 8, 512]⟩
abbrev S520x512 : Shape := ⟨2, ![520, 512]⟩
abbrev S8x3072 : Shape := ⟨2, ![8, 3072]⟩
abbrev S512x1024 : Shape := ⟨2, ![512, 1024]⟩
abbrev S512 : Shape := ⟨1, ![512]⟩
abbrev S512x1 : Shape := ⟨2, ![512, 1]⟩
abbrev S16x512 : Shape := ⟨2, ![16, 512]⟩
abbrev S8x512 : Shape := ⟨2, ![8, 512]⟩
abbrev S1024x512 : Shape := ⟨2, ![1024, 512]⟩
abbrev S512x512 : Shape := ⟨2, ![512, 512]⟩
abbrev S1x512x512 : Shape := ⟨3, ![1, 512, 512]⟩
abbrev S1x512 : Shape := ⟨2, ![1, 512]⟩
abbrev S512x128 : Shape := ⟨2, ![512, 128]⟩
abbrev S1x512x128 : Shape := ⟨3, ![1, 512, 128]⟩

abbrev nBuf : Space → Nat
  | .hbm => 20
  | .vmem => 22
  | .smem => 0
  | _ => 0

abbrev bufTy : (tb : Table) → Fin (tcTables nBuf tb) → BufTy
  | .hbm, ⟨0, _⟩ => ⟨S16x4096x1024, .f32⟩
  | .hbm, ⟨1, _⟩ => ⟨S1024, .f32⟩
  | .hbm, ⟨2, _⟩ => ⟨S1024x4112, .f32⟩
  | .hbm, ⟨3, _⟩ => ⟨S4x3072, .f32⟩
  | .hbm, ⟨4, _⟩ => ⟨S8, .f32⟩
  | .hbm, ⟨5, _⟩ => ⟨S8, .f32⟩
  | .hbm, ⟨6, _⟩ => ⟨S1024x4096, .f32⟩
  | .hbm, ⟨7, _⟩ => ⟨S1024x4096, .bf16⟩
  | .hbm, ⟨8, _⟩ => ⟨S1024x16, .f32⟩
  | .hbm, ⟨9, _⟩ => ⟨S16x1024, .f32⟩
  | .hbm, ⟨10, _⟩ => ⟨S16x1024, .bf16⟩
  | .hbm, ⟨11, _⟩ => ⟨S1x1024, .f32⟩
  | .hbm, ⟨12, _⟩ => ⟨S8x1, .f32⟩
  | .hbm, ⟨13, _⟩ => ⟨S8x1, .f32⟩
  | .hbm, ⟨14, _⟩ => ⟨S16x4096x1024, .bf16⟩
  | .hbm, ⟨15, _⟩ => ⟨S16x4096x1024, .bf16⟩
  | .hbm, ⟨16, _⟩ => ⟨S16x4096x1024, .bf16⟩
  | .hbm, ⟨17, _⟩ => ⟨S16x4096x1024, .bf16⟩
  | .hbm, ⟨18, _⟩ => ⟨S16x8x4096, .f32⟩
  | .hbm, ⟨19, _⟩ => ⟨S16x8x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x4096, .bf16⟩
  | .local _ .vmem, ⟨4, _⟩ => ⟨S16x1024, .bf16⟩
  | .local _ .vmem, ⟨5, _⟩ => ⟨S4x3072, .f32⟩
  | .local _ .vmem, ⟨6, _⟩ => ⟨S8x1, .f32⟩
  | .local _ .vmem, ⟨7, _⟩ => ⟨S8x1, .f32⟩
  | .local _ .vmem, ⟨8, _⟩ => ⟨S1x512x1024, .bf16⟩
  | .local _ .vmem, ⟨9, _⟩ => ⟨S1x512x1024, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x8x512, .f32⟩
  | .local _ .vmem, ⟨17, _⟩ => ⟨S1x8x512, .f32⟩
  | .local _ .vmem, ⟨18, _⟩ => ⟨S1x8x512, .f32⟩
  | .local _ .vmem, ⟨19, _⟩ => ⟨S1x8x512, .f32⟩
  | .local _ .vmem, ⟨20, _⟩ => ⟨S520x512, .f32⟩
  | .local _ .vmem, ⟨21, _⟩ => ⟨S8x3072, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev main_v8_4 : Ref sig .tc := ⟨.hbm, 18, rfl⟩
abbrev main_v8_5 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S16x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x8x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== GinIdeal.lean ====
variable {F : FTy → Type} [FloatOps F] [Named F]
def κ : String → Option EReal := fun
  | "isqrt128" => some (((Real.sqrt 128)⁻¹ : ℝ) : EReal)
  | _ => none
-- ==== GinRefIdeal.lean ====
abbrev S16x4096x1024 : Shape := ⟨3, ![16, 4096, 1024]⟩
abbrev S1024 : Shape := ⟨1, ![1024]⟩
abbrev S1024x4112 : Shape := ⟨2, ![1024, 4112]⟩
abbrev S4x3072 : Shape := ⟨2, ![4, 3072]⟩
abbrev S8 : Shape := ⟨1, ![8]⟩
abbrev S_ : Shape := ⟨0, ![]⟩
abbrev S16x4096 : Shape := ⟨2, ![16, 4096]⟩
abbrev S16x4096x1 : Shape := ⟨3, ![16, 4096, 1]⟩
abbrev S1x1x1024 : Shape := ⟨3, ![1, 1, 1024]⟩
abbrev S16x4096x4112 : Shape := ⟨3, ![16, 4096, 4112]⟩
abbrev S16x4096x3072 : Shape := ⟨3, ![16, 4096, 3072]⟩
abbrev S16x4096x8 : Shape := ⟨3, ![16, 4096, 8]⟩
abbrev S16x4099x3072 : Shape := ⟨3, ![16, 4099, 3072]⟩
abbrev S1x3072 : Shape := ⟨2, ![1, 3072]⟩
abbrev S3072 : Shape := ⟨1, ![3072]⟩
abbrev S1x1x3072 : Shape := ⟨3, ![1, 1, 3072]⟩
abbrev S16x4096x8x128 : Shape := ⟨4, ![16, 4096, 8, 128]⟩
abbrev S16x4096x8x1 : Shape := ⟨4, ![16, 4096, 8, 1]⟩
abbrev S1x1x8 : Shape := ⟨3, ![1, 1, 8]⟩
abbrev S16x8x4096 : Shape := ⟨3, ![16, 8, 4096]⟩

abbrev nBuf : Space → Nat
  | .hbm => 136
  | .vmem => 0
  | .smem => 0
  | _ => 0

abbrev hbmTy0_0 (i : Nat) : BufTy := match i % 128 with
  | 0 => ⟨S16x4096x1024, .f32⟩
  | 1 => ⟨S1024, .f32⟩
  | 2 => ⟨S1024x4112, .f32⟩
  | 3 => ⟨S4x3072, .f32⟩
  | 4 => ⟨S8, .f32⟩
  | 5 => ⟨S8, .f32⟩
  | 6 => ⟨S16x4096x1024, .f32⟩
  | 7 => ⟨S_, .f32⟩
  | 8 => ⟨S16x4096, .f32⟩
  | 9 => ⟨S16x4096x1, .f32⟩
  | 10 => ⟨S_, .f32⟩
  | 11 => ⟨S16x4096x1, .f32⟩
  | 12 => ⟨S16x4096x1, .f32⟩
  | 13 => ⟨S_, .f32⟩
  | 14 => ⟨S16x4096x1, .f32⟩
  | 15 => ⟨S16x4096x1, .f32⟩
  | 16 => ⟨S16x4096x1, .f32⟩
  | 17 => ⟨S16x4096x1024, .f32⟩
  | 18 => ⟨S16x4096x1024, .f32⟩
  | 19 => ⟨S1x1x1024, .f32⟩
  | 20 => ⟨S16x4096x1024, .f32⟩
  | 21 => ⟨S16x4096x1024, .f32⟩
  | 22 => ⟨S16x4096x4112, .f32⟩
  | 23 => ⟨S16x4096x3072, .f32⟩
  | 24 => ⟨S16x4096x1024, .f32⟩
  | 25 => ⟨S16x4096x8, .f32⟩
  | 26 => ⟨S16x4096x8, .f32⟩
  | 27 => ⟨S_, .i32⟩
  | 28 => ⟨S_, .f32⟩
  | 29 => ⟨S16x4099x3072, .f32⟩
  | 30 => ⟨S16x4096x3072, .f32⟩
  | 31 => ⟨S1x3072, .f32⟩
  | 32 => ⟨S3072, .f32⟩
  | 33 => ⟨S1x1x3072, .f32⟩
  | 34 => ⟨S16x4096x3072, .f32⟩
  | 35 => ⟨S16x4096x3072, .f32⟩
  | 36 => ⟨S_, .f32⟩
  | 37 => ⟨S16x4096x3072, .f32⟩
  | 38 => ⟨S16x4096x3072, .f32⟩
  | 39 => ⟨S16x4096x3072, .f32⟩
  | 40 => ⟨S1x3072, .f32⟩
  | 41 => ⟨S3072, .f32⟩
  | 42 => ⟨S1x1x3072, .f32⟩
  | 43 => ⟨S16x4096x3072, .f32⟩
  | 44 => ⟨S16x4096x3072, .f32⟩
  | 45 => ⟨S16x4096x3072, .f32⟩
  | 46 => ⟨S16x4096x3072, .f32⟩
  | 47 => ⟨S1x3072, .f32⟩
  | 48 => ⟨S3072, .f32⟩
  | 49 => ⟨S1x1x3072, .f32⟩
  | 50 => ⟨S16x4096x3072, .f32⟩
  | 51 => ⟨S16x4096x3072, .f32⟩
  | 52 => ⟨S16x4096x3072, .f32⟩
  | 53 => ⟨S16x4096x3072, .f32⟩
  | 54 => ⟨S1x3072, .f32⟩
  | 55 => ⟨S3072, .f32⟩
  | 56 => ⟨S1x1x3072, .f32⟩
  | 57 => ⟨S16x4096x3072, .f32⟩
  | 58 => ⟨S16x4096x3072, .f32⟩
  | 59 => ⟨S16x4096x3072, .f32⟩
  | 60 => ⟨S16x4096x3072, .f32⟩
  | 61 => ⟨S16x4096x3072, .f32⟩
  | 62 => ⟨S_, .f32⟩
  | 63 => ⟨S16x4096x3072, .f32⟩
  | 64 => ⟨S16x4096x3072, .f32⟩
  | 65 => ⟨S_, .f32⟩
  | 66 => ⟨S16x4096x3072, .f32⟩
  | 67 => ⟨S16x4096x3072, .f32⟩
  | 68 => ⟨S16x4096x3072, .f32⟩
  | 69 => ⟨S16x4096x1024, .f32⟩
  | 70 => ⟨S16x4096x1024, .f32⟩
  | 71 => ⟨S16x4096x1024, .f32⟩
  | 72 => ⟨S16x4096x8x128, .f32⟩
  | 73 => ⟨S16x4096x8x128, .f32⟩
  | 74 => ⟨S_, .f32⟩
  | 75 => ⟨S16x4096x8, .f32⟩
  | 76 => ⟨S16x4096x8x1, .f32⟩
  | 77 => ⟨S_, .f32⟩
  | 78 => ⟨S16x4096x8x1, .f32⟩
  | 79 => ⟨S16x4096x8x1, .f32⟩
  | 80 => ⟨S16x4096x8x1, .f32⟩
  | 81 => ⟨S16x4096x8x128, .f32⟩
  | 82 => ⟨S16x4096x8x128, .f32⟩
  | 83 => ⟨S_, .f32⟩
  | 84 => ⟨S_, .f32⟩
  | 85 => ⟨S16x4096x8x128, .f32⟩
  | 86 => ⟨S16x4096x8x128, .f32⟩
  | 87 => ⟨S16x4096x8x128, .f32⟩
  | 88 => ⟨S16x4096x8x128, .f32⟩
  | 89 => ⟨S_, .f32⟩
  | 90 => ⟨S16x4096x8, .f32⟩
  | 91 => ⟨S16x4096x8x1, .f32⟩
  | 92 => ⟨S_, .f32⟩
  | 93 => ⟨S16x4096x8x1, .f32⟩
  | 94 => ⟨S16x4096x8x1, .f32⟩
  | 95 => ⟨S16x4096x8x1, .f32⟩
  | 96 => ⟨S16x4096x8x128, .f32⟩
  | 97 => ⟨S16x4096x8x128, .f32⟩
  | 98 => ⟨S16x4096x8, .f32⟩
  | 99 => ⟨S16x4096x8, .f32⟩
  | 100 => ⟨S_, .f32⟩
  | 101 => ⟨S16x4096x8, .f32⟩
  | 102 => ⟨S16x4096x8, .f32⟩
  | 103 => ⟨S_, .f32⟩
  | 104 => ⟨S16x4096x8, .f32⟩
  | 105 => ⟨S16x4096x8, .f32⟩
  | 106 => ⟨S8, .f32⟩
  | 107 => ⟨S8, .f32⟩
  | 108 => ⟨S1x1x8, .f32⟩
  | 109 => ⟨S16x4096x8, .f32⟩
  | 110 => ⟨S16x4096x8, .f32⟩
  | 111 => ⟨S_, .f32⟩
  | 112 => ⟨S16x4096x8, .f32⟩
  | 113 => ⟨S16x4096x8, .f32⟩
  | 114 => ⟨S16x4096x8, .f32⟩
  | 115 => ⟨S16x4096x8, .f32⟩
  | 116 => ⟨S16x4096x8, .i1⟩
  | 117 => ⟨S16x4096x8, .f32⟩
  | 118 => ⟨S16x4096x8, .f32⟩
  | 119 => ⟨S16x4096x8, .f32⟩
  | 120 => ⟨S16x4096x8, .f32⟩
  | 121 => ⟨S16x4096x8, .f32⟩
  | 122 => ⟨S16x4096x8, .f32⟩
  | 123 => ⟨S16x4096x8, .f32⟩
  | 124 => ⟨S16x4096x8, .f32⟩
  | 125 => ⟨S1x1x8, .f32⟩
  | 126 => ⟨S16x4096x8, .f32⟩
  | 127 => ⟨S16x4096x8, .f32⟩
  | _ => ⟨S16x4096x1024, .f32⟩

abbrev hbmTy0_1 (i : Nat) : BufTy := match i % 128 with
  | 0 => ⟨S16x4096x1024, .f32⟩
  | 1 => ⟨S16x4096x1024, .bf16⟩
  | 2 => ⟨S16x4096x1024, .f32⟩
  | 3 => ⟨S16x4096x1024, .bf16⟩
  | 4 => ⟨S16x4096x1024, .bf16⟩
  | 5 => ⟨S16x4096x1024, .bf16⟩
  | 6 => ⟨S16x8x4096, .f32⟩
  | 7 => ⟨S16x8x4096, .f32⟩
  | _ => ⟨S16x4096x1024, .f32⟩

abbrev hbmTy (i : Nat) : BufTy := match i / 128 with
  | 0 => hbmTy0_0 i
  | 1 => hbmTy0_1 i
  | _ => ⟨S16x4096x1024, .f32⟩

abbrev bufTy : (tb : Table) → Fin (tcTables nBuf tb) → BufTy
  | .hbm, ⟨i, _⟩ => hbmTy i
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_c : Ref sig .tc := ⟨.hbm, 27, rfl⟩
abbrev main_call0_v0 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_3 : Ref sig .tc := ⟨.hbm, 74, rfl⟩
abbrev main_v54 : Ref sig .tc := ⟨.hbm, 75, rfl⟩
abbrev main_v55 : Ref sig .tc := ⟨.hbm, 76, rfl⟩
abbrev main_cst_4 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_5 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_6 : Ref sig .tc := ⟨.hbm, 89, rfl⟩
abbrev main_v66 : Ref sig .tc := ⟨.hbm, 90, rfl⟩
abbrev main_v67 : Ref sig .tc := ⟨.hbm, 91, rfl⟩
abbrev main_cst_7 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_8 : Ref sig .tc := ⟨.hbm, 100, rfl⟩
abbrev main_v75 : Ref sig .tc := ⟨.hbm, 101, rfl⟩
abbrev main_v76 : Ref sig .tc := ⟨.hbm, 102, rfl⟩
abbrev main_cst_9 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_call2_v5 : Ref sig .tc := ⟨.hbm, 117, rfl⟩
abbrev main_call2_v6 : Ref sig .tc := ⟨.hbm, 118, rfl⟩
abbrev main_call2_v7 : Ref sig .tc := ⟨.hbm, 119, rfl⟩
abbrev main_call2_v8 : Ref sig .tc := ⟨.hbm, 120, rfl⟩
abbrev main_call2_v9 : Ref sig .tc := ⟨.hbm, 121, rfl⟩
abbrev main_call2_v10 : Ref sig .tc := ⟨.hbm, 122, rfl⟩
abbrev main_call2_v11 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩

abbrev nD : Nat := 1
abbrev τ : Topo := Topo.v7x

variable {F : FTy → Type} [FloatOps F]
-- ==== Core.lean ====
abbrev S16x4096x1024 : Shape := ⟨3, ![16, 4096, 1024]⟩
abbrev S16x8x4096 : Shape := ⟨3, ![16, 8, 4096]⟩
abbrev S128 : Shape := ⟨1, ![128]⟩
abbrev S1x128 : Shape := ⟨2, ![1, 128]⟩
abbrev S16x8x64x64 : Shape := ⟨4, ![16, 8, 64, 64]⟩
abbrev S1x4096x128 : Shape := ⟨3, ![1, 4096, 128]⟩
abbrev S1x1x64x64 : Shape := ⟨4, ![1, 1, 64, 64]⟩
abbrev S64x64 : Shape := ⟨2, ![64, 64]⟩
abbrev S4096x128 : Shape := ⟨2, ![4096, 128]⟩
abbrev S4096x64 : Shape := ⟨2, ![4096, 64]⟩
abbrev S64x128 : Shape := ⟨2, ![64, 128]⟩
abbrev S1x64x128 : Shape := ⟨3, ![1, 64, 128]⟩
abbrev S1x64 : Shape := ⟨2, ![1, 64]⟩
abbrev S64 : Shape := ⟨1, ![64]⟩
abbrev S64x1 : Shape := ⟨2, ![64, 1]⟩
abbrev S1x1x1x64 : Shape := ⟨4, ![1, 1, 1, 64]⟩
abbrev S1x1 : Shape := ⟨2, ![1, 1]⟩
abbrev S64x256 : Shape := ⟨2, ![64, 256]⟩
abbrev S128x128 : Shape := ⟨2, ![128, 128]⟩

abbrev nBuf : Space → Nat
  | .hbm => 11
  | .vmem => 22
  | .smem => 0
  | _ => 0

abbrev bufTy : (tb : Table) → Fin (tcTables nBuf tb) → BufTy
  | .hbm, ⟨0, _⟩ => ⟨S16x4096x1024, .bf16⟩
  | .hbm, ⟨1, _⟩ => ⟨S16x4096x1024, .bf16⟩
  | .hbm, ⟨2, _⟩ => ⟨S16x4096x1024, .bf16⟩
  | .hbm, ⟨3, _⟩ => ⟨S16x4096x1024, .bf16⟩
  | .hbm, ⟨4, _⟩ => ⟨S16x8x4096, .f32⟩
  | .hbm, ⟨5, _⟩ => ⟨S16x8x4096, .f32⟩
  | .hbm, ⟨6, _⟩ => ⟨S128, .f32⟩
  | .hbm, ⟨7, _⟩ => ⟨S1x128, .f32⟩
  | .hbm, ⟨8, _⟩ => ⟨S16x8x64x64, .f32⟩
  | .hbm, ⟨9, _⟩ => ⟨S16x8x64x64, .f32⟩
  | .hbm, ⟨10, _⟩ => ⟨S16x4096x1024, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x4096x128, .bf16⟩
  | .local _ .vmem, ⟨7, _⟩ => ⟨S1x4096x128, .bf16⟩
  | .local _ .vmem, ⟨8, _⟩ => ⟨S1x1x64x64, .f32⟩
  | .local _ .vmem, ⟨9, _⟩ => ⟨S1x1x64x64, .f32⟩
  | .local _ .vmem, ⟨10, _⟩ => ⟨S1x1x64x64, .f32⟩
  | .local _ .vmem, ⟨11, _⟩ => ⟨S1x1x64x64, .f32⟩
  | .local _ .vmem, ⟨12, _⟩ => ⟨S1x128, .f32⟩
  | .local _ .vmem, ⟨13, _⟩ => ⟨S1x4096x128, .bf16⟩
  | .local _ .vmem, ⟨14, _⟩ => ⟨S1x4096x128, .bf16⟩
  | .local _ .vmem, ⟨15, _⟩ => ⟨S64x64, .f32⟩
  | .local _ .vmem, ⟨16, _⟩ => ⟨S4096x128, .f32⟩
  | .local _ .vmem, ⟨17, _⟩ => ⟨S4096x128, .bf16⟩
  | .local _ .vmem, ⟨18, _⟩ => ⟨S4096x64, .bf16⟩
  | .local _ .vmem, ⟨19, _⟩ => ⟨S4096x128, .bf16⟩
  | .local _ .vmem, ⟨20, _⟩ => ⟨S4096x128, .bf16⟩
  | .local _ .vmem, ⟨21, _⟩ => ⟨S64x128, .f32⟩
  | _, _ => ⟨S16x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 8], ![false, false]⟩

@[reducible] def k0_t1_loop : Scf.Loop 32 :=
  let c0_i32 : BitVec 32 := 0#32
  let c16_i32 : BitVec 32 := 16#32
  let v30 : BitVec 32 := Scalar.addi c0_i32 c16_i32
  let c1_i32 : BitVec 32 := 1#32
  ⟨c0_i32, v30, c1_i32⟩
def k0_mult1 (k0_t1 : Fin k0_t1_loop.trips) : BitVec 32 :=
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let c0_i32_18 : BitVec 32 := 0#32
  let v37 : BitVec 32 := Scalar.addi v36 c0_i32_18
  let c64_i32_19 : BitVec 32 := 64#32
  let v38 : BitVec 32 := Scalar.muli v37 c64_i32_19
  v38
def k0_off1 (k0_t1 : Fin k0_t1_loop.trips) (c0_i32_18 : BitVec 32) : Fin 3 → Nat :=
  let c0_20 : Index := 0#32
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let v37 : BitVec 32 := Scalar.addi v36 c0_i32_18
  let c64_i32_19 : BitVec 32 := 64#32
  let v38 : BitVec 32 := Scalar.muli v37 c64_i32_19
  let v39 : BitVec 32 := v38
  let v40 : Index := Scalar.indexCast v39
  let c0_21 : Index := 0#32
  ![0, v40.toNat, 0]
def k0_off2 (k0_t1 : Fin k0_t1_loop.trips) (c0_i32_18 : BitVec 32) : Fin 2 → Nat :=
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let v37 : BitVec 32 := Scalar.addi v36 c0_i32_18
  let v49 : Index := Scalar.indexCast v37
  let c0_26 : Index := 0#32
  ![v49.toNat, 0]
def k0_off3 (k0_t1 : Fin k0_t1_loop.trips) (c0_i32_18 : BitVec 32) : Fin 4 → Nat :=
  let c0_29 : Index := 0#32
  let c0_30 : Index := 0#32
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let v37 : BitVec 32 := Scalar.addi v36 c0_i32_18
  let v57 : Index := Scalar.indexCast v37
  let c0_31 : Index := 0#32
  ![0, 0, v57.toNat, 0]
def k0_off4 (k0_t1 : Fin k0_t1_loop.trips) (c0_i32_18 : BitVec 32) : Fin 2 → Nat :=
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let v37 : BitVec 32 := Scalar.addi v36 c0_i32_18
  let c64_i32_19 : BitVec 32 := 64#32
  let v38 : BitVec 32 := Scalar.muli v37 c64_i32_19
  let v39 : BitVec 32 := v38
  let v124 : Index := Scalar.indexCast v39
  let c0_48 : Index := 0#32
  ![v124.toNat, 0]
def k0_off5 (k0_t1 : Fin k0_t1_loop.trips) (c0_i32_18 : BitVec 32) : Fin 2 → Nat :=
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let v37 : BitVec 32 := Scalar.addi v36 c0_i32_18
  let c64_i32_19 : BitVec 32 := 64#32
  let v38 : BitVec 32 := Scalar.muli v37 c64_i32_19
  let v39 : BitVec 32 := v38
  let v137 : Index := Scalar.indexCast v39
  let c0_51 : Index := 0#32
  ![v137.toNat, 0]
def k0_off6 (k0_t1 : Fin k0_t1_loop.trips) (c0_i32_18 : BitVec 32) : Fin 2 → Nat :=
  let c0_i32 : BitVec 32 := 0#32
  let c1_i32 : BitVec 32 := 1#32
  let arg17 : BitVec 32 := Scf.iv c0_i32 c1_i32 k0_t1
  let c4_i32 : BitVec 32 := 4#32
  let v36 : BitVec 32 := Scalar.muli arg17 c4_i32
  let v37 : BitVec 32 := Scalar.addi v36 c0_i32_18
  let v162 : Index := Scalar.indexCast v37
  let c0_54 : Index := 0#32
  ![v162.toNat, 0]
def k0_mult2 (k0_t1 : Fin k0_t1_loop.trips) : BitVec 32 :=
  let c0_i32 : BitVec 32 := 0#32
  let c1_i32 : BitVec 32 := 1#32
  let arg17 : BitVec 32 := Scf.iv c0_i32 c1_i32 k0_t1
  let c4_i32_55 : BitVec 32 := 4#32
  let v166 : BitVec 32 := Scalar.muli arg17 c4_i32_55
  let c1_i32_56 : BitVec 32 := 1#32
  let v167 : BitVec 32 := Scalar.addi v166 c1_i32_56
  let c64_i32_57 : BitVec 32 := 64#32
  let v168 : BitVec 32 := Scalar.muli v167 c64_i32_57
  v168
def k0_mult3 (k0_t1 : Fin k0_t1_loop.trips) : BitVec 32 :=
  let c0_i32 : BitVec 32 := 0#32
  let c1_i32 : BitVec 32 := 1#32
  let arg17 : BitVec 32 := Scf.iv c0_i32 c1_i32 k0_t1
  let c4_i32_93 : BitVec 32 := 4#32
  let v296 : BitVec 32 := Scalar.muli arg17 c4_i32_93
  let c2_i32 : BitVec 32 := 2#32
  let v297 : BitVec 32 := Scalar.addi v296 c2_i32
  let c64_i32_94 : BitVec 32 := 64#32
  let v298 : BitVec 32 := Scalar.muli v297 c64_i32_94
  v298
def k0_mult4 (k0_t1 : Fin k0_t1_loop.trips) : BitVec 32 :=
  let c0_i32 : BitVec 32 := 0#32
  let c1_i32 : BitVec 32 := 1#32
  let arg17 : BitVec 32 := Scf.iv c0_i32 c1_i32 k0_t1
  let c4_i32_130 : BitVec 32 := 4#32
  let v426 : BitVec 32 := Scalar.muli arg17 c4_i32_130
  let c3_i32 : BitVec 32 := 3#32
  let v427 : BitVec 32 := Scalar.addi v426 c3_i32
  let c64_i32_131 : BitVec 32 := 64#32
  let v428 : BitVec 32 := Scalar.muli v427 c64_i32_131
  v428
@[reducible] def k0_t2_loop : Scf.Loop 32 :=
  let c0_i32_15 : BitVec 32 := 0#32
  let c64_i32 : BitVec 32 := 64#32
  let v34 : BitVec 32 := Scalar.addi c0_i32_15 c64_i32
  let c1_i32_16 : BitVec 32 := 1#32
  ⟨c0_i32_15, v34, c1_i32_16⟩
def k0_mult5 (k0_t2 : Fin k0_t2_loop.trips) : BitVec 32 :=
  let c0_i32_15 : BitVec 32 := 0#32
  let c1_i32_16 : BitVec 32 := 1#32
  let arg17 : BitVec 32 := Scf.iv c0_i32_15 c1_i32_16 k0_t2
  let c64_i32_18 : BitVec 32 := 64#32
  let v36 : BitVec 32 := Scalar.muli arg17 c64_i32_18
  v36
def k0_off7 (k0_t2 : Fin k0_t2_loop.trips) : Fin 2 → Nat :=
  let c0_i32_15 : BitVec 32 := 0#32
  let c1_i32_16 : BitVec 32 := 1#32
  let arg17 : BitVec 32 := Scf.iv c0_i32_15 c1_i32_16 k0_t2
  let c64_i32_18 : BitVec 32 := 64#32
  let v36 : BitVec 32 := Scalar.muli arg17 c64_i32_18
  let v37 : BitVec 32 := v36
  let v39 : Index := Scalar.indexCast v37
  let c0_19 : Index := 0#32
  ![v39.toNat, 0]
def k0_off8 (k0_t2 : Fin k0_t2_loop.trips) : Fin 2 → Nat :=
  let c0_i32_15 : BitVec 32 := 0#32
  let c1_i32_16 : BitVec 32 := 1#32
  let arg17 : BitVec 32 := Scf.iv c0_i32_15 c1_i32_16 k0_t2
  let c64_i32_18 : BitVec 32 := 64#32
  let v36 : BitVec 32 := Scalar.muli arg17 c64_i32_18
  let v37 : BitVec 32 := v36
  let v49 : Index := Scalar.indexCast v37
  let c0_24 : Index := 0#32
  ![v49.toNat, 0]
def k0_off9 (k0_t2 : Fin k0_t2_loop.trips) : Fin 2 → Nat :=
  let c0_i32_15 : BitVec 32 := 0#32
  let c1_i32_16 : BitVec 32 := 1#32
  let arg17 : BitVec 32 := Scf.iv c0_i32_15 c1_i32_16 k0_t2
  let v53 : Index := Scalar.indexCast arg17
  let c0_26 : Index := 0#32
  ![v53.toNat, 0]
def k0_off10 (k0_t2 : Fin k0_t2_loop.trips) : Fin 3 → Nat :=
  let c0_32 : Index := 0#32
  let c0_i32_15 : BitVec 32 := 0#32
  let c1_i32_16 : BitVec 32 := 1#32
  let arg17 : BitVec 32 := Scf.iv c0_i32_15 c1_i32_16 k0_t2
  let c64_i32_18 : BitVec 32 := 64#32
  let v36 : BitVec 32 := Scalar.muli arg17 c64_i32_18
  let v37 : BitVec 32 := v36
  let v73 : Index := Scalar.indexCast v37
  let c0_33 : Index := 0#32
  ![0, v73.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.CoreIdealFrame.lean ====
module

public import proofs.«01_k».proof.Proof.Gen.CoreIdeal.Frame.Runs
public import Idealize.ShloMosaic.Lib.Claim

/-!
The frame of the call that runs the gated delta rule (the kernel over ideal numbers): on every device it returns, leaves its
arguments as they were and its semaphores at zero. Each grid point first fills the scratch buffers
in one loop over the chunks and then reads them in a second one. The step that this file adds to
the usual certificate is that the first loop writes every scratch buffer whole (`scratch11` to
`scratch16`), so that what the second loop leaves in the output does not depend on what the
scratch memory held at the start.
-/

@[expose] public section

-- membership in a rectangle of production extents (`View.cover_of_tiled`): the elaborator's structural look
-- recurses once per coordinate of the long axes
set_option maxRecDepth 16384

noncomputable section

namespace Cert.Proof.CoreIdealFrame

open Cert.CoreIdeal Cert.CoreIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Writes that cover a whole buffer leave nothing of what it held before. -/
theorem writes_of_cover {κ : Kind} {sp : Space} {s : Shape} {e : EltTy} {w : Memref sig κ sp s e} (hw : w.IsWhole)
    (f : w.view.ty.Contents (Elt F)) (L : List (View.Piece (Elt F) s e)) (h : ∀ y : s.Idx, ∃ p ∈ L, y ∈ p.1.set) :
    w.view.writes (Elt F) f L = w.view.writes (Elt F) w.view.junk L := by
  obtain ⟨b, rfl, rfl, rfl, hh⟩ := hw; cases hh
  funext y
  exact View.read_writes_apply_eq (View.whole b) f (View.whole b) (View.whole b).junk y L (h y)

/-- The first loop writes the whole of its scratch buffer 1: what the buffer held before does not matter. -/
theorem scratch11 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg10 : BufTy.Contents (Elt F) arg10.view.ty) (f : arg11.view.ty.Contents (Elt F)) :
    arg11.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).1 = arg11.view.writes (Elt F) arg11.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).1 :=
  writes_of_cover harg11 f _ (View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).1 S64x128.size (by sl_kernel_rfl))

/-- The first loop writes the whole of its scratch buffer 2: what the buffer held before does not matter. -/
theorem scratch12 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg10 : BufTy.Contents (Elt F) arg10.view.ty) (f : arg12.view.ty.Contents (Elt F)) :
    arg12.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.1 = arg12.view.writes (Elt F) arg12.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.1 :=
  writes_of_cover harg12 f _ (View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.1 S64x128.size (by sl_kernel_rfl))

/-- The first loop writes the whole of its scratch buffer 3: what the buffer held before does not matter. -/
theorem scratch13 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg10 : BufTy.Contents (Elt F) arg10.view.ty) (f : arg13.view.ty.Contents (Elt F)) :
    arg13.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.1 = arg13.view.writes (Elt F) arg13.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.1 :=
  writes_of_cover harg13 f _ (View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.1 S64x64.size (by sl_kernel_rfl))

/-- The first loop writes the whole of its scratch buffer 4: what the buffer held before does not matter. -/
theorem scratch14 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg10 : BufTy.Contents (Elt F) arg10.view.ty) (f : arg14.view.ty.Contents (Elt F)) :
    arg14.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.1 = arg14.view.writes (Elt F) arg14.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.1 :=
  writes_of_cover harg14 f _ (View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.1 S64x128.size (by sl_kernel_rfl))

/-- The first loop writes the whole of its scratch buffer 5: what the buffer held before does not matter. -/
theorem scratch15 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg10 : BufTy.Contents (Elt F) arg10.view.ty) (f : arg15.view.ty.Contents (Elt F)) :
    arg15.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.2.1 = arg15.view.writes (Elt F) arg15.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.2.1 :=
  writes_of_cover harg15 f _ (View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.2.1 S64x128.size (by sl_kernel_rfl))

/-- The first loop writes the whole of its scratch buffer 6: what the buffer held before does not matter. -/
theorem scratch16 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole) (X_arg2 : BufTy.Contents (Elt F) arg2.view.ty) (X_arg3 : BufTy.Contents (Elt F) arg3.view.ty) (X_arg4 : BufTy.Contents (Elt F) arg4.view.ty) (X_arg7 : BufTy.Contents (Elt F) arg7.view.ty) (X_arg10 : BufTy.Contents (Elt F) arg10.view.ty) (f : arg16.view.ty.Contents (Elt F)) :
    arg16.view.writes (Elt F) f (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.2.2 = arg16.view.writes (Elt F) arg16.view.junk (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.2.2 :=
  writes_of_cover harg16 f _ (View.cover_of_tiledL (pb_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 X_arg2 X_arg3 X_arg4 X_arg7 X_arg10 (Scf.trips k0_t1_loop.lb k0_t1_loop.ub k0_t1_loop.st)).2.2.2.2.2 S1x128.size (by sl_kernel_rfl))

set_option maxHeartbeats 1000000 in
/-- The whole body on whole buffers: the pieces its stores leave in the output's buffer, together with the proof that
    the body runs, leaves every input's buffer as it was and the output's buffer holding those pieces. The pieces
    mention the inputs only, because the first loop fills the scratch buffers. -/
noncomputable def kernelRun0_A (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole)
    (x0 : Vec F S1x4096x128 .bf16) (x1 : Vec F S1x4096x128 .bf16) (x2 : Vec F S1x4096x128 .bf16) (x3 : Vec F S1x4096x128 .bf16) (x4 : Vec F S1x1x64x64 .f32) (x5 : Vec F S1x1x64x64 .f32) (x6 : Vec F S1x128 .f32) :
    { L7 : List (View.Piece (Elt F) S1x4096x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ (∃ f, arg9.view.loc (c : Thread nD τ) ↦[arg9.view.set]{fullShare} arg9.view.writes (Elt F) f L7) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_gdn_core i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨?_, fun E K => ?run⟩
  case run =>
    simp only [cc0_gdn_core_eq_skeleton]; unfold cc0_gdn_core_skel
    simp only [k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
    sl_exec
    sl_step
    rw [scratch11 (f := fs1), scratch12 (f := fs2), scratch13 (f := fs3), scratch14 (f := fs4), scratch15 (f := fs5), scratch16 (f := fs6)]
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]; · iexists _; iexact H7
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    iexists _, _; isplitr; swap; · iexact HS6
    ipureintro; rfl

/-- The stores into the output, 64 blocks of `S1x64x128`, cover it. -/
theorem cover0_A_7 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole)
    (x0 : Vec F S1x4096x128 .bf16) (x1 : Vec F S1x4096x128 .bf16) (x2 : Vec F S1x4096x128 .bf16) (x3 : Vec F S1x4096x128 .bf16) (x4 : Vec F S1x1x64x64 .f32) (x5 : Vec F S1x1x64x64 .f32) (x6 : Vec F S1x128 .f32) (y : S1x4096x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1 S1x64x128.size (by sl_kernel_rfl) y

/-- What the run leaves in output 7's staging buffer: its pieces read back over junk. -/
def out0_A_7 (c : Dev nD) (i : grid0.Coords) (arg2 : Memref sig .tc .vmem S1x4096x128 .bf16) (harg2 : arg2.IsWhole) (arg3 : Memref sig .tc .vmem S1x4096x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x64x64 .f32) (harg6 : arg6.IsWhole) (arg7 : Memref sig .tc .vmem S1x1x64x64 .f32) (harg7 : arg7.IsWhole) (arg8 : Memref sig .tc .vmem S1x128 .f32) (harg8 : arg8.IsWhole) (arg9 : Memref sig .tc .vmem S1x4096x128 .bf16) (harg9 : arg9.IsWhole) (arg10 : Memref sig .tc .vmem S64x64 .f32) (harg10 : arg10.IsWhole) (arg11 : Memref sig .tc .vmem S4096x128 .f32) (harg11 : arg11.IsWhole) (arg12 : Memref sig .tc .vmem S4096x128 .bf16) (harg12 : arg12.IsWhole) (arg13 : Memref sig .tc .vmem S4096x64 .bf16) (harg13 : arg13.IsWhole) (arg14 : Memref sig .tc .vmem S4096x128 .bf16) (harg14 : arg14.IsWhole) (arg15 : Memref sig .tc .vmem S4096x128 .bf16) (harg15 : arg15.IsWhole) (arg16 : Memref sig .tc .vmem S64x128 .f32) (harg16 : arg16.IsWhole)
    (x0 : Vec F S1x4096x128 .bf16) (x1 : Vec F S1x4096x128 .bf16) (x2 : Vec F S1x4096x128 .bf16) (x3 : Vec F S1x4096x128 .bf16) (x4 : Vec F S1x1x64x64 .f32) (x5 : Vec F S1x1x64x64 .f32) (x6 : Vec F S1x128 .f32) : Vec F S1x4096x128 .bf16 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6).1)

/-! ## What the outputs hold after each point -/

/-- What the outputs' staging buffers hold after the body at point `t`: the run's contents at
    the point's memrefs and input blocks. -/
def outsAt0 (c : Dev nD) (t : Fin cfg0.N) : Vec F S1x4096x128 .bf16 :=
  out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t)

/-! ## The pipeline's proof data -/

/-- The proof data of the one pipeline on core `c`: the arrays as the region finds them (`V`); after the body at
    point `t` each input's buffer at its block and the outputs' at `outsAt0`; the invariant the class's
   ; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  unfold outsAt0
  unfold out0_A_7
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, ⟨%e7, H7⟩, HS0, HS1, HS2, HS3, HS4, HS5, HS6⟩
  isplitl [HS0 HS1 HS2 HS3 HS4 HS5 HS6 Hg]
  · isplitl [HS0 HS1 HS2 HS3 HS4 HS5 HS6]
    · isplitl [HS0]
      · iexact HS0
      isplitl [HS1]
      · iexact HS1
      isplitl [HS2]
      · iexact HS2
      isplitl [HS3]
      · iexact HS3
      isplitl [HS4]
      · iexact HS4
      isplitl [HS5]
      · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover0_A_7 c _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame: the call returns, its arguments are as they were and every semaphore is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Proof.CoreIdealFrame

end
-- ==== Proof.Math.lean ====
/- The functions of the layer at one row, over the extended reals: what both the kernels and the references compute,
   stated once and free of any program. -/
module

public import Idealize.ShloMosaic.Lib.Pointwise
public import Idealize.ShloMosaic.Lib.WordCmp

@[expose] public section

noncomputable section

namespace Cert.Proof.Math

open Idealize.ShloMosaic

/-- The sum of the products of two rows: one element of a matrix product. -/
def dot {n : ℕ} (a b : Fin n → EReal) : EReal := ∑ k, a k * b k

/-- Root mean square norm of the row `x` with weight `g` at `j`; the row's length is the float word `N`. -/
def rms {n : ℕ} (N : BitVec 32) (x g : Fin n → EReal) (j : Fin n) : EReal :=
  x j * Ideal.rsqrt (Ideal.div (∑ k, x k * x k) (Ideal.ofBits .f32 N) + Ideal.ofBits .f32 0x358637BD#32) * g j

/-- The mean of the row `x`; the row's length is the float word `N`. -/
def mean {n : ℕ} (N : BitVec 32) (x : Fin n → EReal) : EReal := Ideal.div (∑ k, x k) (Ideal.ofBits .f32 N)

/-- Layer norm of the row `x` with weight `g` and shift `b` at `j`. -/
def layerNorm {n : ℕ} (N : BitVec 32) (x g b : Fin n → EReal) (j : Fin n) : EReal :=
  (x j - mean N x) * Ideal.rsqrt (mean N (fun k => (x k - mean N x) * (x k - mean N x))
    + Ideal.ofBits .f32 0x3727C5AC#32) * g j + b j

/-- The exact gelu: half of `y` times one plus the error function of `y / √2`. -/
def gelu (y : EReal) : EReal :=
  Ideal.ofBits .f32 0x3F000000#32 * y * (1 + Ideal.erf (y * (((Real.sqrt 2)⁻¹ : ℝ) : EReal)))

/-- One result of the spatial gating: `u` times the causal mix of the 128 values `v` of its chunk at offset `t`. -/
def gate (u : EReal) (w : Fin 128 → EReal) (t : Fin 128) (v : Fin 128 → EReal) (b : EReal) : EReal :=
  u * ((∑ s, (if s ≤ t then w s else 0) * v s) + b)

/-- The kernel's causal mask as a comparison of 32 bit words selects where the column is not after the row. -/
theorem select_sge {α : Type} (t s : Fin 128) (a b : α) :
    Scalar.select (IntOp.cmpi .sge (BitVec.ofNat 32 t.val) (BitVec.ofNat 32 s.val)) a b = if s ≤ t then a else b := by
  rw [WordCmp.cmpi_sge_ofNat (by omega) (by omega)]
  by_cases h : s ≤ t
  · rw [if_pos h, decide_eq_true (Fin.le_def.1 h)]; rfl
  · rw [if_neg h, decide_eq_false (fun e => h (Fin.le_def.2 e))]; rfl

end Cert.Proof.Math

end
-- ==== Proof.SguPay.lean ====
/- What the gating kernel's body stores, read at an index. -/
module

public import proofs.«01_k».proof.Proof.Math
public import proofs.«01_k».proof.Proof.Gen.SguIdeal.Skeleton
public import Idealize.ShloMosaic.Lib.Pointwise

@[expose] public section

set_option maxRecDepth 16384

noncomputable section

namespace Cert.Proof.Sgu

open Idealize.ShloMosaic Idealize.ShloMosaic.TcCoe Idealize.SL.Sem
open Cert.SguIdeal Cert.SguIdeal.Gen Cert.Proof.Math

theorem named_eq : (Named.named κ "isqrt2" 0x3F3504F3#32 : Ideal .f32) = (((Real.sqrt 2)⁻¹ : ℝ) : EReal) :=
  IdealRules.named_const.ideal_named_scalar _ _ _ _ rfl

/-- The normed block: every row is the root mean square norm of the block's row. -/
theorem pay3_apply (x : FVec Ideal S1x512x1024 .f32) (g : FVec Ideal S1x1024 .f32) (r : Fin 512) (j : Fin 1024) :
    k0_pay3 (F := Ideal) x g (ix2 r j)
      = rms 0x44800000#32 (fun k => x (ix3 0 r k)) (fun k => g (ix2 0 k)) j := by
  pointwise [k0_pay3, rms]

theorem pay8_apply (h : FVec Ideal S512x1024 .bf16) (w : FVec Ideal S1024x512 .bf16) (r : Fin 512) (j : Fin 512) :
    k0_pay8 (F := Ideal) h w (ix2 r j) = gelu (dot (fun k => h (ix2 r k)) (fun k => w (ix2 k j))) := by
  pointwise [k0_pay8, gelu, dot, named_eq, Ideal.erf_def]

theorem pay14_apply (h : FVec Ideal S512x1024 .bf16) (w : FVec Ideal S1024x256 .bf16) (r : Fin 512) (j : Fin 256) :
    k0_pay14 (F := Ideal) h w (ix2 r j) = gelu (dot (fun k => h (ix2 r k)) (fun k => w (ix2 k j))) := by
  pointwise [k0_pay14, gelu, dot, named_eq, Ideal.erf_def]

theorem pay10_apply (v : FVec Ideal S512x2048 .f32) (g b : FVec Ideal S1x2048 .f32) (r : Fin 512) (j : Fin 2048) :
    k0_pay10 (F := Ideal) v g b (ix2 r j)
      = layerNorm 0x45000000#32 (fun k => v (ix2 r k)) (fun k => g (ix2 0 k)) (fun k => b (ix2 0 k)) j := by
  pointwise [k0_pay10, layerNorm, mean]

theorem pay15_apply (h : FVec Ideal S512x1024 .bf16) (ws : FVec Ideal S1x128x128 .f32) (bs : FVec Ideal S128x1 .f32)
    (w : FVec Ideal S1024x256 .bf16) (v : FVec Ideal S128x256 .f32) (r : Fin 128) (j : Fin 256) :
    k0_pay15 (F := Ideal) h (k0_pay12 ws) (k0_pay13 bs) w v (ix3 0 r j)
      = gate (gelu (dot (fun k => h (ix2 ⟨r.val, by omega⟩ k)) (fun k => w (ix2 k j)))) (fun s => ws (ix3 0 r s)) r
          (fun s => v (ix2 s j)) (bs (ix2 r 0)) := by
  pointwise [k0_pay15, k0_pay14, k0_pay13, k0_pay12, k0_pay11, gelu, dot, gate, named_eq, Ideal.erf_def, select_sge]

end Cert.Proof.Sgu

end
-- ==== Proof.SguBlock.lean ====
/- What one grid point of the gating kernel writes into its output block, read at an index. -/
module

public import proofs.«01_k».proof.Proof.SguPay
public import proofs.«01_k».proof.Proof.Gen.SguIdeal.Value
public import Idealize.ShloMosaic.Lib.Pipeline.ValueKit
public import Idealize.ShloMosaic.Lib.Pipeline.ReadBack

@[expose] public section

set_option maxRecDepth 16384

noncomputable section

namespace Cert.Proof.Sgu

open Idealize.ShloMosaic Idealize.ShloMosaic.TcCoe Idealize.SL.Sem
open Cert.SguIdeal Cert.SguIdeal.Gen Cert.Proof.Math

variable (m : (ℓ : Loc nD τ sig) → Buf (Elt Ideal) ℓ)

/-- The gelu of the second half of the projection at row `r`, column `c`, from the input blocks. -/
def vRaw (x : FVec Ideal S1x512x1024 .f32) (g : FVec Ideal S1x1024 .f32) (w : FVec Ideal S1024x4096 .bf16)
    (r : Fin 512) (c : Fin 4096) : EReal :=
  gelu (dot (rms 0x44800000#32 (fun k => x (ix3 0 r k)) (fun k => g (ix2 0 k))) (fun k => w (ix2 k c)))

/-- The layer norm of the second half of the projection at row `r`, column `c`, from the input blocks. -/
def vNorm (x : FVec Ideal S1x512x1024 .f32) (g : FVec Ideal S1x1024 .f32) (w : FVec Ideal S1024x4096 .bf16)
    (lg lb : FVec Ideal S1x2048 .f32) (r : Fin 512) (c : Fin 2048) : EReal :=
  layerNorm 0x45000000#32 (fun k : Fin 2048 => vRaw x g w r ⟨2048 + k.val, by omega⟩) (fun k => lg (ix2 0 k))
    (fun k => lb (ix2 0 k)) c

/-- The output block at row `r`, column `c`, from the input blocks. -/
def blockAt (x : FVec Ideal S1x512x1024 .f32) (g : FVec Ideal S1x1024 .f32) (w : FVec Ideal S1024x4096 .bf16)
    (lg lb : FVec Ideal S1x2048 .f32) (ws : FVec Ideal S8x128x128 .f32) (bs : FVec Ideal S128x8 .f32)
    (r : Fin 512) (c : Fin 2048) : EReal :=
  gate (vRaw x g w r ⟨c.val, by omega⟩) (fun s => ws (ix3 ⟨c.val / 256, by omega⟩ ⟨r.val % 128, by omega⟩ s))
    ⟨r.val % 128, by omega⟩ (fun s => vNorm x g w lg lb ⟨128 * (r.val / 128) + s.val, by omega⟩ c)
    (bs (ix2 ⟨r.val % 128, by omega⟩ ⟨c.val / 256, by omega⟩))

/-- One stored tile, at row offset `o` and column offset `q`, is the block function there. -/
theorem tile_apply (x : FVec Ideal S1x512x1024 .f32) (g : FVec Ideal S1x1024 .f32) (w : FVec Ideal S1024x4096 .bf16)
    (lg lb : FVec Ideal S1x2048 .f32) (ws : FVec Ideal S8x128x128 .f32) (bs : FVec Ideal S128x8 .f32)
    (H : FVec Ideal S512x1024 .bf16) (V : FVec Ideal S512x2048 .f32)
    (hH : ∀ (r : Fin 512) (k : Fin 1024), H (ix2 r k)
      = rms 0x44800000#32 (fun k => x (ix3 0 r k)) (fun k => g (ix2 0 k)) k)
    (hV : ∀ (r : Fin 512) (j : Fin 2048), V (ix2 r j) = vNorm x g w lg lb r j)
    (o q : ℕ) (ho : o % 128 = 0 ∧ o < 512) (hq : q % 256 = 0 ∧ q < 2048)
    (a : Fin 128) (b : Fin 256) (r : Fin 512) (c : Fin 2048) (hr : r.val = o + a.val) (hc : c.val = q + b.val) :
    gate (gelu (dot (fun k => H (ix2 ⟨o + a.val, by omega⟩ k)) (fun k => w (ix2 k ⟨q + b.val, by omega⟩))))
        (fun s => ws (ix3 ⟨q / 256, by omega⟩ a s)) a (fun s => V (ix2 ⟨o + s.val, by omega⟩ ⟨q + b.val, by omega⟩))
        (bs (ix2 a ⟨q / 256, by omega⟩))
      = blockAt x g w lg lb ws bs r c := by
  have ho' : o + a.val < 512 := by clear hr; omega
  have hq' : q + b.val < 2048 := by clear hc; omega
  obtain rfl : r = ⟨o + a.val, ho'⟩ := Fin.ext hr
  obtain rfl : c = ⟨q + b.val, hq'⟩ := Fin.ext hc
  have e1 : (⟨(o + a.val) % 128, by omega⟩ : Fin 128) = a := Fin.ext (by show (o + a.val) % 128 = a.val; omega)
  have e2 : (⟨(q + b.val) / 256, by omega⟩ : Fin 8) = ⟨q / 256, by omega⟩ := Fin.ext (by show (q + b.val) / 256 = q / 256; omega)
  have e3 : ∀ s : Fin 128, (⟨128 * ((o + a.val) / 128) + s.val, by omega⟩ : Fin 512) = ⟨o + s.val, by omega⟩ :=
    fun s => Fin.ext (by show 128 * ((o + a.val) / 128) + s.val = o + s.val; omega)
  unfold blockAt vRaw
  simp only [hH, hV, e1, e2, e3]

set_option maxHeartbeats 4000000 in
theorem outs_apply (c : Dev nD) (t : Fin cfg0.N) (y : S1x512x2048.Idx) :
    outsAt0 m c t y = blockAt (iblk m c 0 t) (iblk m c 1 t) (iblk m c 2 t) (iblk m c 3 t) (iblk m c 4 t) (iblk m c 5 t)
      (iblk m c 6 t) (y 1) (y 2) := by
  unfold outsAt0; frame_open
  simp (disch := decide) only [↓ View.readCov_skip, ↓ View.readCov_cons_toLoadRect, ↓ View.readCov_fill]
  frame_out
  generalize hV : k0_pay10 (F := Ideal) _ (iblk m c 3 t) (iblk m c 4 t) = V
  have hV' : ∀ (r : Fin 512) (j : Fin 2048), V (ix2 r j)
      = vNorm (iblk m c 0 t) (iblk m c 1 t) (iblk m c 2 t) (iblk m c 3 t) (iblk m c 4 t) r j := by
    intro r j
    rw [← hV, pay10_apply]
    unfold vNorm
    refine congrArg (fun f => layerNorm _ f _ _ j) (funext fun k => ?_)
    rw [View.readCov_eq_canon']
    have vt : ∀ (n : ℕ) (hn : n < 3585) (a : Fin 512) (hk : k.val + 2048 = n + a.val),
        gelu (dot (rms 0x44800000#32 (fun i => (iblk m c 0 t : FVec Ideal S1x512x1024 .f32) (ix3 0 r i))
          (fun i => (iblk m c 1 t : FVec Ideal S1x1024 .f32) (ix2 0 i)))
          (fun i => (iblk m c 2 t : FVec Ideal S1024x4096 .bf16) (ix2 i ⟨n + a.val, by omega⟩)))
        = vRaw (iblk m c 0 t) (iblk m c 1 t) (iblk m c 2 t) r ⟨2048 + k.val, by omega⟩ := by
      intro n hn a hk
      have e : (⟨2048 + k.val, by omega⟩ : Fin 4096) = ⟨n + a.val, by omega⟩ := Fin.ext (by show 2048 + k.val = n + a.val; omega)
      rw [e, vRaw]
    clear hV
    canon_tiles x h <;> idx_vars x <;>
      (obtain rfl : r = x0 := Fin.ext (by simpa [Rect.idx_unit_val] using h0)) <;>
      simp only [Rect.idx_unit_val] at h1
    · refine Eq.trans ?_ (vt 3584 (by decide) x1 (by simp at h1; omega))
      pointwise [k0_pay9, k0_pay3, gelu, dot, rms, named_eq, Ideal.erf_def]
    · refine Eq.trans ?_ (vt 3072 (by decide) x1 (by simp at h1; omega))
      pointwise [k0_pay8, k0_pay3, gelu, dot, rms, named_eq, Ideal.erf_def]
    · refine Eq.trans ?_ (vt 2560 (by decide) x1 (by simp at h1; omega))
      pointwise [k0_pay7, k0_pay6, k0_pay5, k0_pay3, gelu, dot, rms, named_eq, Ideal.erf_def]
    · refine Eq.trans ?_ (vt 2048 (by decide) x1 (by simp at h1; omega))
      pointwise [k0_pay4, k0_pay3, gelu, dot, rms, named_eq, Ideal.erf_def]
  clear hV
  have hH : ∀ (r : Fin 512) (k : Fin 1024), k0_pay3 (F := Ideal) (iblk m c 0 t) (iblk m c 1 t) (ix2 r k) = _ :=
    pay3_apply _ _
  generalize k0_pay3 (F := Ideal) (iblk m c 0 t) (iblk m c 1 t) = H at hH ⊢
  have core := tile_apply _ _ _ _ _ (iblk m c 5 t) (iblk m c 6 t) H V hH hV'
  canon_tiles x h
  all_goals idx_vars x
  all_goals first
    | refine Eq.trans ?_ (core _ _ (by decide) (by decide) x1 x2 _ _ h1 h2)
    | refine Eq.trans ?_ (core 0 _ (by decide) (by decide) x1 x2 _ _ (h1.trans (Nat.zero_add _).symm) h2)
    | refine Eq.trans ?_ (core _ 0 (by decide) (by decide) x1 x2 _ _ h1 (h2.trans (Nat.zero_add _).symm))
    | refine Eq.trans ?_ (core 0 0 (by decide) (by decide) x1 x2 _ _ (h1.trans (Nat.zero_add _).symm)
        (h2.trans (Nat.zero_add _).symm))
  all_goals
    open_payloads
    pointwise [gate, gelu, dot, named_eq, Ideal.erf_def, select_sge]

end Cert.Proof.Sgu

end
-- ==== Proof.SguSpec.lean ====
/- The spatial gating unit of layer 1 as a function of the arrays: what the kernel and the reference both compute. -/
module

public import proofs.«01_k».proof.Proof.Math

@[expose] public section

noncomputable section

namespace Cert.Proof.Sgu

open Idealize.ShloMosaic Cert.Proof.Math

/-- The gelu of the projection of position `(b, s)` at column `c`. -/
def zAt (h : FVec Ideal ⟨3, ![16, 4096, 1024]⟩ .f32) (g : FVec Ideal ⟨1, ![1024]⟩ .f32) (w : FVec Ideal ⟨2, ![1024, 4096]⟩ .f32)
    (b : Fin 16) (s : Fin 4096) (c : Fin 4096) : EReal :=
  gelu (dot (rms 0x44800000#32 (fun k => h (ix3 b s k)) (fun k => g (ix1 k))) (fun k => w (ix2 k c)))

/-- The layer norm of the second half of the projection of position `(b, s)` at column `c`. -/
def vAt (h : FVec Ideal ⟨3, ![16, 4096, 1024]⟩ .f32) (g : FVec Ideal ⟨1, ![1024]⟩ .f32) (w : FVec Ideal ⟨2, ![1024, 4096]⟩ .f32)
    (lg lb : FVec Ideal ⟨1, ![2048]⟩ .f32) (b : Fin 16) (s : Fin 4096) (c : Fin 2048) : EReal :=
  layerNorm 0x45000000#32 (fun k : Fin 2048 => zAt h g w b s ⟨2048 + k.val, by omega⟩) (fun k => lg (ix1 k))
    (fun k => lb (ix1 k)) c

/-- The spatial gating unit at position `(b, s)`, column `c`. -/
def sguAt (h : FVec Ideal ⟨3, ![16, 4096, 1024]⟩ .f32) (g : FVec Ideal ⟨1, ![1024]⟩ .f32) (w : FVec Ideal ⟨2, ![1024, 4096]⟩ .f32)
    (lg lb : FVec Ideal ⟨1, ![2048]⟩ .f32) (ws : FVec Ideal ⟨3, ![8, 128, 128]⟩ .f32) (bs : FVec Ideal ⟨2, ![8, 128]⟩ .f32)
    (b : Fin 16) (s : Fin 4096) (c : Fin 2048) : EReal :=
  gate (zAt h g w b s ⟨c.val, by omega⟩) (fun k => ws (ix3 ⟨c.val / 256, by omega⟩ ⟨s.val % 128, by omega⟩ k))
    ⟨s.val % 128, by omega⟩ (fun k => vAt h g w lg lb b ⟨128 * (s.val / 128) + k.val, by omega⟩ c)
    (bs (ix2 ⟨c.val / 256, by omega⟩ ⟨s.val % 128, by omega⟩))

end Cert.Proof.Sgu

end
-- ==== Proof.SguArray.lean ====
/- The array the gating kernel leaves, as one function of its arguments. -/
module

public import proofs.«01_k».proof.Proof.SguBlock
public import proofs.«01_k».proof.Proof.SguSpec
public import Idealize.ShloMosaic.Lib.Claim

@[expose] public section

set_option maxRecDepth 16384

noncomputable section

namespace Cert.Proof.Sgu

open Idealize.ShloMosaic Idealize.ShloMosaic.TcCoe Idealize.SL.Sem
open Cert.SguIdeal Cert.SguIdeal.Gen Cert.Proof.Math

variable (m : (ℓ : Loc nD τ sig) → Buf (Elt Ideal) ℓ)

theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0, 0]
    ∧ win0_6.index t = ![0, 0] ∧ win0_7.index t = ![t.val / 8, t.val % 8, 0] :=
  (by decide +kernel : ∀ t : Fin grid0.N, _)

theorem t_lt (t : Fin cfg0.N) : t.val < 128 := t.isLt

/-- The block the kernel reads, read at a row and column of it, is the array read at the block's place. -/
theorem read0 (c : Dev nD) (t : Fin cfg0.N) (r : Fin 512) (k : Fin 1024) :
    iblk m c 0 t (ix3 0 r k) = m ((c : Thread nD τ).loc main_arg0)
      (ix3 ⟨t.val / 8, by have := t_lt t; omega⟩ ⟨512 * (t.val % 8) + r.val, by omega⟩ k) := by
  blk_ext [iblk, V, idx t]
theorem read1 (c : Dev nD) (t : Fin cfg0.N) (k : Fin 1024) :
    iblk m c 1 t (ix2 0 k) = m ((c : Thread nD τ).loc main_arg1) (ix1 k) := by
  blk_simp [iblk, idx t]
  entry_read
  pointwise
  blk_point [iblk, V, idx t]
theorem read2 (c : Dev nD) (t : Fin cfg0.N) (k : Fin 1024) (j : Fin 4096) :
    iblk m c 2 t (ix2 k j) = m ((c : Thread nD τ).loc main_arg2) (ix2 k j) := by
  blk_simp [iblk, idx t]
  entry_read
  pointwise
  blk_point [iblk, V, idx t]
theorem read3 (c : Dev nD) (t : Fin cfg0.N) (k : Fin 2048) :
    iblk m c 3 t (ix2 0 k) = m ((c : Thread nD τ).loc main_arg3) (ix1 k) := by
  blk_simp [iblk, idx t]
  entry_read
  pointwise
  blk_point [iblk, V, idx t]
theorem read4 (c : Dev nD) (t : Fin cfg0.N) (k : Fin 2048) :
    iblk m c 4 t (ix2 0 k) = m ((c : Thread nD τ).loc main_arg4) (ix1 k) := by
  blk_simp [iblk, idx t]
  entry_read
  pointwise
  blk_point [iblk, V, idx t]
theorem read5 (c : Dev nD) (t : Fin cfg0.N) (g : Fin 8) (i k : Fin 128) :
    iblk m c 5 t (ix3 g i k) = m ((c : Thread nD τ).loc main_arg5) (ix3 g i k) := by
  blk_ext [iblk, V, idx t]
theorem read6 (c : Dev nD) (t : Fin cfg0.N) (i : Fin 128) (g : Fin 8) :
    iblk m c 6 t (ix2 i g) = m ((c : Thread nD τ).loc main_arg6) (ix2 g i) := by
  blk_simp [iblk, idx t]
  entry_read
  pointwise
  blk_point [iblk, V, idx t]

/-- The block function over the blocks of a grid point is the array function at the block's rows. -/
theorem block_eq (c : Dev nD) (t : Fin cfg0.N) (r : Fin 512) (j : Fin 2048) :
    blockAt (iblk m c 0 t) (iblk m c 1 t) (iblk m c 2 t) (iblk m c 3 t) (iblk m c 4 t) (iblk m c 5 t) (iblk m c 6 t) r j
      = sguAt (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) ⟨t.val / 8, by have := t_lt t; omega⟩
        ⟨512 * (t.val % 8) + r.val, by omega⟩ j := by
  have e1 : (⟨(512 * (t.val % 8) + r.val) % 128, by omega⟩ : Fin 128) = ⟨r.val % 128, by omega⟩ :=
    Fin.ext (by show (512 * (t.val % 8) + r.val) % 128 = r.val % 128; omega)
  have e2 : ∀ k : Fin 128, (⟨128 * ((512 * (t.val % 8) + r.val) / 128) + k.val, by omega⟩ : Fin 4096)
      = ⟨512 * (t.val % 8) + (⟨128 * (r.val / 128) + k.val, by omega⟩ : Fin 512).val, by
          show 512 * (t.val % 8) + (128 * (r.val / 128) + k.val) < 4096; omega⟩ := fun k =>
    Fin.ext (by show 128 * ((512 * (t.val % 8) + r.val) / 128) + k.val = 512 * (t.val % 8) + (128 * (r.val / 128) + k.val); omega)
  unfold blockAt sguAt vNorm vAt vRaw zAt
  simp only [read0, read1, read2, read3, read4, read5, read6, e1, e2]

/-- The result array after the run. -/
theorem final (c : Dev nD) : (dats m 0 c).arrAt 7 (cfgs 0).N = fun i : S16x4096x2048.Idx =>
    sguAt (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (i 0) (i 1) (i 2) := by
  refine (dats m 0 c).arrAt_eq_of_covers 7 _ (by decide +kernel) fun t _ y => ?_
  blk_simp
  rw [after0_7]
  refine (outs_apply m c t y).trans ?_
  refine (block_eq m c t (y 1) (y 2)).trans ?_
  refine congr (congr (congrArg _ (Fin.ext ?_)) (Fin.ext ?_)) (Fin.ext ?_) <;> blk_simp [idx t]
  show 512 * (t.val % 8) + (y 1).val = t.val % 8 * 512 + (y 1).val
  omega

end Cert.Proof.Sgu

end
-- ==== Proof.SguRef.lean ====
/- The reference of the gating kernel, read at an index. -/
module

public import proofs.«01_k».proof.Proof.SguSpec
public import proofs.«01_k».proof.Proof.Gen.SguRefIdeal.Read
public import Idealize.ShloMosaic.Lib.Pointwise

@[expose] public section

set_option maxRecDepth 16384

noncomputable section

namespace Cert.Proof.SguRef

open Idealize.ShloMosaic Idealize.ShloMosaic.TcCoe Idealize.SL.Sem
open Cert.SguRefIdeal Cert.SguRefIdeal.Read Cert.Proof.Math Cert.Proof.Sgu

/-- The reference's constant: the root of the float word of two is the real root of two. -/
theorem sqrt_two : Ideal.sqrt (Ideal.ofBits .f32 0x40000000#32) = ((Real.sqrt 2 : ℝ) : EReal) := by
  have h : Ideal.ofBits .f32 0x40000000#32 = ((2 : ℝ) : EReal) := by
    simp [Ideal.ofBits, Ideal.ieee, -EReal.coe_mul]; norm_num
  rw [h, Ideal.sqrt_coe, if_neg (by norm_num)]

/-- The reference's gelu, over the complementary error function, is the gelu. -/
theorem gelu_eq (y : EReal) : Ideal.ofBits .f32 0x3F000000#32 * y * Ideal.erfc (Ideal.div (-y) ((Real.sqrt 2 : ℝ) : EReal))
    = gelu y := by
  have h : Real.sqrt 2 ≠ 0 := by positivity
  rw [Ideal.div_coe h, EReal.neg_mul, Ideal.erfc_neg, one_div, gelu]

variable (x0 : FVec Ideal S16x4096x1024 .f32) (x1 : FVec Ideal S1024 .f32) (x2 : FVec Ideal S1024x4096 .f32)
  (x3 x4 : FVec Ideal S2048 .f32) (x5 : FVec Ideal S8x128x128 .f32) (x6 : FVec Ideal S8x128 .f32)

theorem hn_apply (b : Fin 16) (s : Fin 4096) (k : Fin 1024) : val_main_v12 (F := Ideal) x0 x1 (ix3 b s k)
    = rms 0x44800000#32 (fun k => x0 (ix3 b s k)) (fun k => x1 (ix1 k)) k := by
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, rms]

theorem z_apply (b : Fin 16) (s : Fin 4096) (c : Fin 4096) : val_main_v21 (F := Ideal) x0 x1 x2 (ix3 b s c)
    = zAt x0 x1 x2 b s c := by
  have e : val_main_v13 (F := Ideal) x0 x1 x2 (ix3 b s c)
      = dot (rms 0x44800000#32 (fun k => x0 (ix3 b s k)) (fun k => x1 (ix1 k))) (fun k => x2 (ix2 k c)) := by
    pointwise [val_main_v13, dot, hn_apply]
  rw [zAt, ← gelu_eq, ← e, ← sqrt_two]
  pointwise [val_main_v21, val_main_v20, val_main_v19, val_main_v18, val_main_v17, val_main_v16, val_main_v15,
    val_main_v14, val_main_cst_2, val_main_cst_3]

theorem v_apply (b : Fin 16) (s : Fin 4096) (c : Fin 2048) : val_main_v45 (F := Ideal) x0 x1 x2 x3 x4 (ix3 b s c)
    = vAt x0 x1 x2 x3 x4 b s c := by
  have e : ∀ j : Fin 2048, val_main_v23 (F := Ideal) x0 x1 x2 (ix3 b s j) = zAt x0 x1 x2 b s ⟨2048 + j.val, by omega⟩ := by
    intro j
    pointwise [val_main_v23]
    exact z_apply x0 x1 x2 b s _
  have e27 : ∀ j : Fin 1, val_main_v27 (F := Ideal) x0 x1 x2 (ix3 b s j)
      = mean 0x45000000#32 (fun k : Fin 2048 => zAt x0 x1 x2 b s ⟨2048 + k.val, by omega⟩) := by
    intro j
    pointwise [val_main_v27, val_main_v26, val_main_v25, val_main_v24, val_main_cst_4, val_main_cst_5, mean, e]
  have e29 : ∀ j : Fin 2048, val_main_v29 (F := Ideal) x0 x1 x2 (ix3 b s j) = zAt x0 x1 x2 b s ⟨2048 + j.val, by omega⟩
      - mean 0x45000000#32 (fun k : Fin 2048 => zAt x0 x1 x2 b s ⟨2048 + k.val, by omega⟩) := by
    intro j
    pointwise [val_main_v29, val_main_v28, e, e27]
  unfold vAt layerNorm
  generalize hM : mean 0x45000000#32 (fun k : Fin 2048 => zAt x0 x1 x2 b s ⟨2048 + k.val, by omega⟩) = M at *
  pointwise [val_main_v45, val_main_v44, val_main_v43, val_main_v42, val_main_v41, val_main_v40, val_main_v39,
    val_main_v38, val_main_v37, val_main_v36, val_main_v35, val_main_v34, val_main_v33, val_main_v32, val_main_v31,
    val_main_v30, val_main_cst_6, val_main_cst_7, val_main_cst_8, e29, mean]

theorem ws_apply (g : Fin 8) (t s : Fin 128) : val_main_v49 (F := Ideal) x5 (ix3 g t s)
    = if s ≤ t then x5 (ix3 g t s) else 0 := by
  have h : ∀ a b : EReal, Scalar.select (val_main_v48 (F := Ideal) (ix2 t s)) a b = if s ≤ t then a else b := by
    intro a b
    rw [val_main_v48_apply, val_main_call0_v4_apply]
    have e : ∀ p : BitVec 1, Scalar.select p (val_main_v47 (F := Ideal) (ix2 t s)) (val_main_call0_v5 (F := Ideal) (ix2 t s)) = p := by
      intro p
      rw [val_main_v47_apply, val_main_c_apply, val_main_call0_v5_apply, val_main_call0_c_0_apply]
      revert p; decide
    rw [e]
    pointwise [val_main_call0_v2, val_main_call0_v0, val_main_call0_v1, val_main_call0_c, val_main_call0_v3]
    have e2 : IntOp.addi (BitVec.ofNat 32 t.val) 0#32 = BitVec.ofNat 32 t.val := BitVec.add_zero _
    rw [e2, select_sge]
  pointwise [val_main_v49, val_main_call1_v1, val_main_call1_v2, h, val_main_call1_v0, val_main_cst_9, id]

theorem ref_apply (b : Fin 16) (s : Fin 4096) (c : Fin 2048) :
    val_main_v58 (F := Ideal) x0 x1 x2 x3 x4 x5 x6 (ix3 b s c) = sguAt x0 x1 x2 x3 x4 x5 x6 b s c := by
  pointwise [val_main_v58, val_main_v57, val_main_v56, val_main_v55, val_main_v54, val_main_v53, val_main_v52,
    val_main_v51, val_main_v50, val_main_v46, val_main_v22, z_apply, v_apply, ws_apply]
  have e : ∀ k : Fin 128, (⟨s.val / 128 * 128 + k.val, by omega⟩ : Fin 4096) = ⟨128 * (s.val / 128) + k.val, by omega⟩ :=
    fun k => Fin.ext (by show s.val / 128 * 128 + k.val = 128 * (s.val / 128) + k.val; omega)
  unfold sguAt gate
  refine congrArg (zAt x0 x1 x2 b s ⟨c.val, by omega⟩ * ·) (congrArg (· + x6 (ix2 ⟨c.val / 256, by omega⟩ ⟨s.val % 128, by omega⟩)) ?_)
  exact Finset.sum_congr rfl fun k _ => by rw [e, mul_comm]

end Cert.Proof.SguRef

end
-- ==== Proof.SguClaims.lean ====
/- The claims about the gating kernel: the two runs end with the same array. -/
module

public import proofs.«01_k».proof.Defs
public import proofs.«01_k».proof.Proof.SguArray
public import proofs.«01_k».proof.Proof.SguRef
public import proofs.«01_k».proof.Proof.Gen.SguRefIdeal.Run

@[expose] public section

set_option maxRecDepth 16384

noncomputable section

namespace Cert.Proof.SguClaims

open Idealize.ShloMosaic Idealize.ShloMosaic.TcCoe Idealize.SL.Sem

/-- The kernel's rounded constant is the named one. -/
theorem preserves : Cert.preserves_Sgu_SguIdeal :=
  IdealRules.named_const.statement Cert.SguIdeal.κ "isqrt2" .f32 0x3F3504F3#32 (((Real.sqrt 2)⁻¹ : ℝ) : EReal) rfl

/-- From memories that agree on the arguments the kernel's result array and the reference's are the same function. -/
theorem algebraic : Cert.algebraic_SguIdeal_SguRefIdeal := by
  intro m ρ m' ρ' _ hagree
  refine ⟨_, Cert.SguIdeal.Value.run_blocks (F := Ideal) m ρ, ?_⟩
  refine (θ_run Cert.SguRefIdeal.defs _ _).mono (fun _ h c => ⟨(h c).1.trans ?_, (h c).2⟩)
    (Cert.SguRefIdeal.Value.run (F := Ideal) m' ρ')
  obtain ⟨h0, h1, h2, h3, h4, h5, h6⟩ := hagree c
  rw [Cert.SguRefIdeal.Read.val_main_v58_eq, h0, h1, h2, h3, h4, h5, h6]
  refine Eq.trans (funext fun i => ?_) (Cert.Proof.Sgu.final m c).symm
  rw [eq_ix3 i]
  exact Cert.Proof.SguRef.ref_apply _ _ _ _ _ _ _ _ _ _

end Cert.Proof.SguClaims

end
-- ==== Proof.FfnMath.lean ====
/- The channel mixer at one row, over the extended reals: what both the kernels and the references compute, stated once
   and free of any program. -/
module

public import proofs.«01_k».proof.Proof.Math
public import Idealize.ShloMosaic.Lib.Pipeline.ValueKit

@[expose] public section

noncomputable section

namespace Cert.Proof.Math

open Idealize.ShloMosaic

/-- The convolution of three taps at one place: `y0` there, `y1` one row before, `y2` two rows before, and the shift `b`. -/
def conv3 (y0 y1 y2 w0 w1 w2 b : EReal) : EReal := y0 * w2 + b + y2 * w0 + y1 * w1

/-- The sigmoid. -/
def sigm (x : EReal) : EReal := Ideal.div 1 (1 + Ideal.exp (-x))

/-- The gated linear unit of gate `g` and value `u`: `g` times its sigmoid times `u`. -/
def glu (g u : EReal) : EReal := g * sigm g * u

/-- Row `o + r` of a column that holds the 8 rows `C` and below them the 512 rows `y`. -/
def tap (o : ℕ) (ho : o ≤ 8) (C : Fin 8 → EReal) (y : Fin 512 → EReal) (r : Fin 512) : EReal :=
  if h : o + r.val < 8 then C ⟨o + r.val, h⟩ else y ⟨o + r.val - 8, by omega⟩

/-- The causal convolution of a column `y` of 512 rows, the 8 rows before them being `C`, at row `r`. -/
def convB (C : Fin 8 → EReal) (y : Fin 512 → EReal) (w : Fin 3 → EReal) (b : EReal) (r : Fin 512) : EReal :=
  conv3 (y r) (tap 7 (by decide) C y r) (tap 6 (by decide) C y r) (w 0) (w 1) (w 2) b

/-- The row `h` plus the hidden row `x` projected by `w`. -/
def ffn {n d : ℕ} (h : Fin d → EReal) (x : Fin n → EReal) (w : Fin n → Fin d → EReal) (k : Fin d) : EReal :=
  h k + dot x (fun j => w j k)

/-- The row `h` plus the embedding `p` projected by `wp`, gated by the sigmoid of the normed row projected by `wg`. -/
def ple {n : ℕ} (h g : Fin 1024 → EReal) (wg : Fin 1024 → Fin 1024 → EReal) (p : Fin n → EReal)
    (wp : Fin n → Fin 1024 → EReal) (k : Fin 1024) : EReal :=
  h k + sigm (dot (rms 0x44800000#32 h g) (fun j => wg j k)) * dot p (fun j => wp j k)

/-- The sum of the 256 terms from the place `o` on. -/
def part (f : Fin 2816 → EReal) (o : ℕ) (ho : o + 256 ≤ 2816) : EReal := ∑ j : Fin 256, f ⟨o + j.val, by omega⟩

/-- Eleven partial sums, added one after the other, are the sum. -/
theorem sum_parts (f : Fin 2816 → EReal) (a : EReal) :
    a + part f 0 (by decide) + part f 256 (by decide) + part f 512 (by decide) + part f 768 (by decide)
      + part f 1024 (by decide) + part f 1280 (by decide) + part f 1536 (by decide) + part f 1792 (by decide)
      + part f 2048 (by decide) + part f 2304 (by decide) + part f 2560 (by decide) = a + ∑ j, f j := by
  have e : (∑ j, f j) = ∑ b : Fin 11, part f (b.val * 256) (by omega) := Fin.sum_univ_tiles 11 256 rfl f
  have s11 : ∀ g : Fin 11 → EReal, ∑ b, g b
      = g 0 + (g 1 + (g 2 + (g 3 + (g 4 + (g 5 + (g 6 + (g 7 + (g 8 + (g 9 + g 10))))))))) := by
    intro g
    simp only [Fin.sum_univ_succ, Fin.sum_univ_zero, add_zero]
    rfl
  rw [e, s11]
  simp only [add_assoc]
  rfl

end Cert.Proof.Math

end
-- ==== Proof.FfnBlock.lean ====
/- One block of the channel mixer: what a grid point computes from its blocks and from the rows carried into it, free of
   any program. -/
module

public import proofs.«01_k».proof.Proof.FfnMath
public import Idealize.ShloMosaic.Lib.Pipeline.ValueKit
public import Idealize.ShloMosaic.Lib.Pipeline.ReadBack

@[expose] public section

set_option maxRecDepth 16384

noncomputable section

namespace Cert.Proof.Ffn

open Idealize.ShloMosaic Idealize.ShloMosaic.TcCoe Idealize.SL.Sem
open Cert.Proof.Math

/-- 512 rows of the buffer from row `o` on, where the buffer holds `C` in its first 8 rows and `Y` below. -/
def shift {n : ℕ} (o : ℕ) (ho : o ≤ 8) (C : FVec Ideal ⟨2, ![8, n]⟩ .f32) (Y : FVec Ideal ⟨2, ![512, n]⟩ .f32) : FVec Ideal ⟨2, ![512, n]⟩ .f32 :=
  fun i => if h : o + (i 0).val < 8 then C (ix2 ⟨o + (i 0).val, h⟩ (i 1))
    else Y (ix2 ⟨o + (i 0).val - 8, by have : (i 0).val < 512 := (i 0).isLt; omega⟩ (i 1))

/-- A load of 512 rows from row `o` on reads them from the last two stores. -/
theorem shift_read {sig : RefSig} {n : ℕ} {κ : Kind} {sp : Space} (v : View sig κ sp ⟨2, ![520, n]⟩ .f32) (C : FVec Ideal ⟨2, ![8, n]⟩ .f32)
    (Y : FVec Ideal ⟨2, ![512, n]⟩ .f32) (L : List (View.Piece (Elt Ideal) ⟨2, ![520, n]⟩ .f32)) (o : ℕ) (ho : o ≤ 8)
    (h1 : ∀ a, (![8, 0] : Fin 2 → ℕ) a + (![512, n] : Fin 2 → ℕ) a ≤ (⟨2, ![520, n]⟩ : Shape).size a)
    (h2 : ∀ a, (![0, 0] : Fin 2 → ℕ) a + (![8, n] : Fin 2 → ℕ) a ≤ (⟨2, ![520, n]⟩ : Shape).size a)
    (h3 : ∀ a, (![o, 0] : Fin 2 → ℕ) a + (![512, n] : Fin 2 → ℕ) a ≤ (⟨2, ![520, n]⟩ : Shape).size a) :
    v.readCov (⟨Rect.unit (s := ⟨2, ![520, n]⟩) ![8, 0] ![512, n] h1, Y⟩ :: ⟨Rect.unit (s := ⟨2, ![520, n]⟩) ![0, 0] ![8, n] h2, C⟩ :: L)
      (Rect.unit (s := ⟨2, ![520, n]⟩) ![o, 0] ![512, n] h3).toLoadRect = shift o ho C Y := by
  rw [View.readCov_eq_canon']
  funext i
  unfold shift
  have hi : (i 0).val < 512 := (i 0).isLt
  split
  · rename_i h
    refine (View.canon_cons_of_not_mem _ _ ?_).trans ?_
    · intro hm
      have h8 := (((Rect.mem_set_unit (inb := h1)).1 hm) 0).1
      simp [Rect.idx_unit_val] at h8
      omega
    · rw [show (Rect.unit (s := ⟨2, ![520, n]⟩) ![o, 0] ![512, n] h3).toLoadRect.idx i
        = (Rect.unit (s := ⟨2, ![520, n]⟩) ![0, 0] ![8, n] h2).emb (ix2 ⟨o + (i 0).val, h⟩ (i 1)) by
          funext a; refine Fin.ext ?_; match a with
          | 0 => simp [Rect.idx_unit_val]
          | 1 => simp [Rect.idx_unit_val]]
      exact View.canon_cons_emb _ _ _ _
  · rename_i h
    rw [show (Rect.unit (s := ⟨2, ![520, n]⟩) ![o, 0] ![512, n] h3).toLoadRect.idx i
        = (Rect.unit (s := ⟨2, ![520, n]⟩) ![8, 0] ![512, n] h1).emb (ix2 ⟨o + (i 0).val - 8, by omega⟩ (i 1)) by
          funext a; refine Fin.ext ?_; match a with
          | 0 => simp [Rect.idx_unit_val]; omega
          | 1 => simp [Rect.idx_unit_val]]
    exact View.canon_cons_emb _ _ _ _

/-- Column `q` of the convolved projection at row `r`: `H` the normed rows, `C` the 8 projected rows before them. -/
def conv (H : FVec Ideal ⟨2, ![512, 1024]⟩ .bf16) (w : FVec Ideal ⟨2, ![1024, 5632]⟩ .bf16) (cw : FVec Ideal ⟨2, ![3, 5632]⟩ .f32)
    (cb : FVec Ideal ⟨2, ![1, 5632]⟩ .f32) (C : FVec Ideal ⟨2, ![8, 5632]⟩ .f32) (r : Fin 512) (q : Fin 5632) : EReal :=
  convB (fun a => C (ix2 a q)) (fun s => dot (fun k => H (ix2 s k)) (fun k => w (ix2 k q))) (fun a => cw (ix2 a q))
    (cb (ix2 0 q)) r

/-- The hidden unit `j` at row `r`. -/
def hid (H : FVec Ideal ⟨2, ![512, 1024]⟩ .bf16) (w : FVec Ideal ⟨2, ![1024, 5632]⟩ .bf16) (cw : FVec Ideal ⟨2, ![3, 5632]⟩ .f32)
    (cb : FVec Ideal ⟨2, ![1, 5632]⟩ .f32) (C : FVec Ideal ⟨2, ![8, 5632]⟩ .f32) (r : Fin 512) (j : Fin 2816) : EReal :=
  glu (conv H w cw cb C r ⟨j.val, by omega⟩) (conv H w cw cb C r ⟨2816 + j.val, by omega⟩)

/-- One block of 256 hidden units, at column offsets `o` and `q`, projected. -/
theorem part_eq (H : FVec Ideal ⟨2, ![512, 1024]⟩ .bf16) (w : FVec Ideal ⟨2, ![1024, 5632]⟩ .bf16) (cw : FVec Ideal ⟨2, ![3, 5632]⟩ .f32)
    (cb : FVec Ideal ⟨2, ![1, 5632]⟩ .f32) (wo : FVec Ideal ⟨2, ![2816, 1024]⟩ .bf16) (C : FVec Ideal ⟨2, ![8, 5632]⟩ .f32) (r : Fin 512)
    (k : Fin 1024) (a : EReal) (o q : ℕ) (ho : o + 256 ≤ 2816) (hq : q = 2816 + o) :
    a + (∑ j : Fin 256, glu (conv H w cw cb C r ⟨o + j.val, by omega⟩) (conv H w cw cb C r ⟨q + j.val, by omega⟩)
        * wo (ix2 ⟨o + j.val, by omega⟩ k))
      = a + part (fun j => hid H w cw cb C r j * wo (ix2 j k)) o ho := by
  subst hq
  refine congrArg (a + ·) (Finset.sum_congr rfl fun j _ => ?_)
  have e : (⟨2816 + o + j.val, by omega⟩ : Fin 5632) = ⟨2816 + (o + j.val), by omega⟩ :=
    Fin.ext (by show 2816 + o + j.val = 2816 + (o + j.val); omega)
  unfold hid
  rw [e]

/-- One piece of 256 columns, at offset `q`, of the rows a grid point leaves for the next. -/
theorem carry_eq (H : FVec Ideal ⟨2, ![512, 1024]⟩ .bf16) (w : FVec Ideal ⟨2, ![1024, 5632]⟩ .bf16) (a b : Fin 8) (j : Fin 256)
    (p : Fin 5632) (q : ℕ) (hq : q + 256 ≤ 5632) (hb : b.val = a.val) (hp : p.val = q + j.val) :
    dot (fun k => H (ix2 ⟨504 + a.val, by omega⟩ k)) (fun k => w (ix2 k ⟨q + j.val, by omega⟩))
      = dot (fun k => H (ix2 ⟨504 + b.val, by omega⟩ k)) (fun k => w (ix2 k p)) := by
  obtain rfl : b = a := Fin.ext hb
  have hq' : q + j.val < 5632 := by clear hp; omega
  obtain rfl : p = ⟨q + j.val, hq'⟩ := Fin.ext hp
  rfl

/-- The first store into an array does not matter at an index that a later one holds. -/
theorem canon_dropLast {Val : EltTy → Type} [∀ e, Nonempty (Val e)] {S : Shape} {e : EltTy} (y : S.Idx) :
    ∀ L : List (View.Piece Val S e), (∃ q ∈ L.dropLast, y ∈ q.1.set) → View.canon L y = View.canon L.dropLast y
  | [], _ => rfl
  | [p], h => by obtain ⟨q, hq, _⟩ := h; exact absurd hq List.not_mem_nil
  | p :: p' :: L, h => by
    rw [List.dropLast_cons₂] at h ⊢
    by_cases hp : y ∈ p.1.set
    · obtain ⟨x, rfl⟩ := p.1.exists_idx_of_mem hp
      exact (View.canon_cons_emb p.1 p.2 _ x).trans (View.canon_cons_emb p.1 p.2 _ x).symm
    · rw [View.canon_cons_of_not_mem _ _ hp, View.canon_cons_of_not_mem _ _ hp]
      refine canon_dropLast y (p' :: L) ?_
      obtain ⟨q, hq, hy⟩ := h
      rcases List.mem_cons.mp hq with rfl | hq
      · exact absurd hy hp
      · exact ⟨q, hq, hy⟩

end Cert.Proof.Ffn

end
-- ==== Proof.MixBlock.lean ====
/- What one grid point of the channel mixer leaves in its output block and in the rows it carries, read at an index. -/
module

public import proofs.«01_k».proof.Proof.FfnBlock
public import proofs.«01_k».proof.Proof.Gen.MixIdeal.Value

@[expose] public section

set_option maxRecDepth 16384

noncomputable section

namespace Cert.Proof.Mix

open Idealize.ShloMosaic Idealize.ShloMosaic.TcCoe Idealize.SL.Sem
open Cert.MixIdeal Cert.MixIdeal.Gen Cert.Proof.Math Cert.Proof.Ffn

variable (m : (ℓ : Loc nD τ sig) → Buf (Elt Ideal) ℓ)

/-- The residual row plus the projected mixer output. -/
theorem pay4_apply (x : FVec Ideal S1x512x1024 .f32) (u : FVec Ideal S1x512x2048 .bf16) (w : FVec Ideal S2048x1024 .bf16)
    (r : Fin 512) (k : Fin 1024) : k0_pay4 (F := Ideal) x u w (ix2 r k)
      = x (ix3 0 r k) + dot (fun j => u (ix3 0 r j)) (fun j => w (ix2 j k)) := by
  pointwise [k0_pay4, k0_pay2, dot]

/-- The normed rows. -/
theorem pay3_apply (x : FVec Ideal S1x512x1024 .f32) (u : FVec Ideal S1x512x2048 .bf16) (w : FVec Ideal S2048x1024 .bf16)
    (g : FVec Ideal S1x1024 .f32) (r : Fin 512) (k : Fin 1024) : k0_pay3 (F := Ideal) x u w g (ix2 r k)
      = rms 0x44800000#32 (fun k => x (ix3 0 r k) + dot (fun j => u (ix3 0 r j)) (fun j => w (ix2 j k)))
        (fun k => g (ix2 0 k)) k := by
  pointwise [k0_pay3, k0_pay2, dot, rms]

/-- The rows carried into the first tile of a sequence are zero. -/
theorem pay5_apply (a : Fin 8) (q : Fin 5632) : k0_pay5 (F := Ideal) (ix2 a q) = 0 := by
  pointwise [k0_pay5]

/-- The carried rows a grid point starts from. -/
def carried (c : Dev nD) (t : Fin cfg0.N) : FVec Ideal S8x5632 .f32 :=
  if t.val % 8 = 0 then k0_pay5 (F := Ideal) else (outsAt0 m c (t.val - 1) (Nat.lt_of_le_of_lt (Nat.sub_le _ _) t.isLt)).2

/-- The output block at row `r`, column `k`, from the residual rows `A`, the normed rows `H` and the input blocks. -/
def blockAt (A : FVec Ideal S512x1024 .f32) (H : FVec Ideal S512x1024 .bf16) (w : FVec Ideal S1024x5632 .bf16)
    (cw : FVec Ideal S3x5632 .f32) (cb : FVec Ideal S1x5632 .f32) (wo : FVec Ideal S2816x1024 .bf16)
    (pn : FVec Ideal S1x1024 .f32) (wg : FVec Ideal S1024x1024 .bf16) (p : FVec Ideal S1x512x256 .f32)
    (wp : FVec Ideal S256x1024 .bf16) (on : FVec Ideal S1x1024 .f32) (C : FVec Ideal S8x5632 .f32)
    (r : Fin 512) (k : Fin 1024) : EReal :=
  rms 0x44800000#32 (ple (ffn (fun k => A (ix2 r k)) (hid H w cw cb C r) (fun j k => wo (ix2 j k)))
    (fun k => pn (ix2 0 k)) (fun j k => wg (ix2 j k)) (fun j => p (ix3 0 r j)) (fun j k => wp (ix2 j k)))
    (fun k => on (ix2 0 k)) k

set_option maxHeartbeats 8000000 in
theorem outs_apply (c : Dev nD) (t : Fin cfg0.N) (y : S1x512x1024.Idx) :
    (outsAt0 m c t.val t.isLt).1 y = blockAt (k0_pay4 (F := Ideal) (iblk m c 0 t) (iblk m c 1 t) (iblk m c 2 t))
      (k0_pay3 (F := Ideal) (iblk m c 0 t) (iblk m c 1 t) (iblk m c 2 t) (iblk m c 3 t)) (iblk m c 4 t) (iblk m c 5 t)
      (iblk m c 6 t) (iblk m c 7 t) (iblk m c 8 t) (iblk m c 9 t) (iblk m c 10 t) (iblk m c 11 t) (iblk m c 12 t)
      (carried m c t) (y 1) (y 2) := by
  unfold carried
  split <;> rename_i h
  all_goals first | rw [Gen.outsAt0_A m c t h] | rw [Gen.outsAt0_B m c t h]
  all_goals
    frame_open
    simp (disch := decide) only [↓ shift_read, ↓ View.readCov_skip, ↓ View.readCov_cons_toLoadRect, ↓ View.readCov_fill,
      read_unread_whole]
    frame_out
  all_goals first
    | have h' : ¬ t.val % 8 = 0 := h
      generalize (outsAt0 m c (t.val - 1) _).2 = X
      have hC : View.read (Elt Ideal) (View.whole cc0_scratch1) ((Memref.isWhole_whole cc0_scratch1).unread X) = X :=
        read_unread_whole _ _ _
      generalize View.read (Elt Ideal) (View.whole cc0_scratch1) _ = C at hC ⊢
      subst hC
      clear h'
    | generalize k0_pay5 (F := Ideal) = C
  all_goals
    simp only [k0_pay6]
    generalize k0_pay4 (F := Ideal) (iblk m c 0 t) (iblk m c 1 t) (iblk m c 2 t) = A0
    generalize k0_pay3 (F := Ideal) (iblk m c 0 t) (iblk m c 1 t) (iblk m c 2 t) (iblk m c 3 t) = H
    generalize e : k0_pay16 (F := Ideal) _ _ _ = A1
    have h1 : ∀ r k, A1 (ix2 r k) = A0 (ix2 r k) + part (fun j => hid H (iblk m c 4 t) (iblk m c 5 t) (iblk m c 6 t) C r j
        * (iblk m c 7 t : FVec Ideal S2816x1024 .bf16) (ix2 j k)) 0 (by decide) := by
      intro r k
      rw [← e]
      refine Eq.trans ?_ (part_eq H _ _ _ _ C r k _ 0 2816 (by decide) (by decide))
      open_payloads
      pointwise [glu, sigm, conv, convB, conv3, tap, shift, dot, zero_sub]
    clear e
    generalize e : k0_pay29 (F := Ideal) _ _ _ _ _ _ = A2
    have h2 : ∀ r k, A2 (ix2 r k) = A1 (ix2 r k) + part (fun j => hid H (iblk m c 4 t) (iblk m c 5 t) (iblk m c 6 t) C r j
        * (iblk m c 7 t : FVec Ideal S2816x1024 .bf16) (ix2 j k)) 256 (by decide) := by
      intro r k
      rw [← e]
      refine Eq.trans ?_ (part_eq H _ _ _ _ C r k _ 256 3072 (by decide) (by decide))
      open_payloads
      pointwise [glu, sigm, conv, convB, conv3, tap, shift, dot, zero_sub]
    clear e
    generalize e : k0_pay41 (F := Ideal) _ _ _ _ _ _ _ _ _ _ = A3
    have h3 : ∀ r k, A3 (ix2 r k) = A2 (ix2 r k) + part (fun j => hid H (iblk m c 4 t) (iblk m c 5 t) (iblk m c 6 t) C r j
        * (iblk m c 7 t : FVec Ideal S2816x1024 .bf16) (ix2 j k)) 512 (by decide) := by
      intro r k
      rw [← e]
      refine Eq.trans ?_ (part_eq H _ _ _ _ C r k _ 512 3328 (by decide) (by decide))
      open_payloads
      pointwise [glu, sigm, conv, convB, conv3, tap, shift, dot, zero_sub]
    clear e
    generalize e : k0_pay54 (F := Ideal) _ _ _ _ _ _ = A4
    have h4 : ∀ r k, A4 (ix2 r k) = A3 (ix2 r k) + part (fun j => hid H (iblk m c 4 t) (iblk m c 5 t) (iblk m c 6 t) C r j
        * (iblk m c 7 t : FVec Ideal S2816x1024 .bf16) (ix2 j k)) 768 (by decide) := by
      intro r k
      rw [← e]
      refine Eq.trans ?_ (part_eq H _ _ _ _ C r k _ 768 3584 (by decide) (by decide))
      open_payloads
      pointwise [glu, sigm, conv, convB, conv3, tap, shift, dot, zero_sub]
    clear e
    generalize e : k0_pay67 (F := Ideal) _ _ _ _ _ _ _ _ = A5
    have h5 : ∀ r k, A5 (ix2 r k) = A4 (ix2 r k) + part (fun j => hid H (iblk m c 4 t) (iblk m c 5 t) (iblk m c 6 t) C r j
        * (iblk m c 7 t : FVec Ideal S2816x1024 .bf16) (ix2 j k)) 1024 (by decide) := by
      intro r k
      rw [← e]
      refine Eq.trans ?_ (part_eq H _ _ _ _ C r k _ 1024 3840 (by decide) (by decide))
      open_payloads
      pointwise [glu, sigm, conv, convB, conv3, tap, shift, dot, zero_sub]
    clear e
    generalize e : k0_pay79 (F := Ideal) _ _ _ = A6
    have h6 : ∀ r k, A6 (ix2 r k) = A5 (ix2 r k) + part (fun j => hid H (iblk m c 4 t) (iblk m c 5 t) (iblk m c 6 t) C r j
        * (iblk m c 7 t : FVec Ideal S2816x1024 .bf16) (ix2 j k)) 1280 (by decide) := by
      intro r k
      rw [← e]
      refine Eq.trans ?_ (part_eq H _ _ _ _ C r k _ 1280 4096 (by decide) (by decide))
      open_payloads
      pointwise [glu, sigm, conv, convB, conv3, tap, shift, dot, zero_sub]
    clear e
    generalize e : k0_pay91 (F := Ideal) _ _ _ _ _ _ = A7
    have h7 : ∀ r k, A7 (ix2 r k) = A6 (ix2 r k) + part (fun j => hid H (iblk m c 4 t) (iblk m c 5 t) (iblk m c 6 t) C r j
        * (iblk m c 7 t : FVec Ideal S2816x1024 .bf16) (ix2 j k)) 1536 (by decide) := by
      intro r k
      rw [← e]
      refine Eq.trans ?_ (part_eq H _ _ _ _ C r k _ 1536 4352 (by decide) (by decide))
      open_payloads
      pointwise [glu, sigm, conv, convB, conv3, tap, shift, dot, zero_sub]
    clear e
    generalize e : k0_pay101 (F := Ideal) _ _ _ _ _ _ _ _ _ _ = A8
    have h8 : ∀ r k, A8 (ix2 r k) = A7 (ix2 r k) + part (fun j => hid H (iblk m c 4 t) (iblk m c 5 t) (iblk m c 6 t) C r j
        * (iblk m c 7 t : FVec Ideal S2816x1024 .bf16) (ix2 j k)) 1792 (by decide) := by
      intro r k
      rw [← e]
      refine Eq.trans ?_ (part_eq H _ _ _ _ C r k _ 1792 4608 (by decide) (by decide))
      open_payloads
      pointwise [glu, sigm, conv, convB, conv3, tap, shift, dot, zero_sub]
    clear e
    generalize e : k0_pay114 (F := Ideal) _ _ _ _ = A9
    have h9 : ∀ r k, A9 (ix2 r k) = A8 (ix2 r k) + part (fun j => hid H (iblk m c 4 t) (iblk m c 5 t) (iblk m c 6 t) C r j
        * (iblk m c 7 t : FVec Ideal S2816x1024 .bf16) (ix2 j k)) 2048 (by decide) := by
      intro r k
      rw [← e]
      refine Eq.trans ?_ (part_eq H _ _ _ _ C r k _ 2048 4864 (by decide) (by decide))
      open_payloads
      pointwise [glu, sigm, conv, convB, conv3, tap, shift, dot, zero_sub]
    clear e
    generalize e : k0_pay126 (F := Ideal) _ _ _ _ _ _ _ _ = A10
    have h10 : ∀ r k, A10 (ix2 r k) = A9 (ix2 r k) + part (fun j => hid H (iblk m c 4 t) (iblk m c 5 t) (iblk m c 6 t) C r j
        * (iblk m c 7 t : FVec Ideal S2816x1024 .bf16) (ix2 j k)) 2304 (by decide) := by
      intro r k
      rw [← e]
      refine Eq.trans ?_ (part_eq H _ _ _ _ C r k _ 2304 5120 (by decide) (by decide))
      open_payloads
      pointwise [glu, sigm, conv, convB, conv3, tap, shift, dot, zero_sub]
    clear e
    generalize e : k0_pay138 (F := Ideal) _ = A11
    have h11 : ∀ r k, A11 (ix2 r k) = A10 (ix2 r k) + part (fun j => hid H (iblk m c 4 t) (iblk m c 5 t) (iblk m c 6 t) C r j
        * (iblk m c 7 t : FVec Ideal S2816x1024 .bf16) (ix2 j k)) 2560 (by decide) := by
      intro r k
      rw [← e]
      refine Eq.trans ?_ (part_eq H _ _ _ _ C r k _ 2560 5376 (by decide) (by decide))
      open_payloads
      pointwise [glu, sigm, conv, convB, conv3, tap, shift, dot, zero_sub]
    clear e
    have hA : ∀ r k, A11 (ix2 r k) = ffn (fun k => A0 (ix2 r k)) (hid H (iblk m c 4 t) (iblk m c 5 t) (iblk m c 6 t) C r)
        (fun j k => (iblk m c 7 t : FVec Ideal S2816x1024 .bf16) (ix2 j k)) k := by
      intro r k
      rw [h11, h10, h9, h8, h7, h6, h5, h4, h3, h2, h1, sum_parts]
      rfl
    clear h1 h2 h3 h4 h5 h6 h7 h8 h9 h10 h11
    obtain ⟨a, r, k, rfl⟩ : ∃ (a : Fin 1) (r : Fin 512) (k : Fin 1024), y = ix3 a r k := ⟨y 0, y 1, y 2, eq_ix3 y⟩
    have hA' := (funext fun k => (hA r k).symm : _ = fun k => A11 (ix2 r k))
    show _ = blockAt A0 H (iblk m c 4 t) (iblk m c 5 t) (iblk m c 6 t) (iblk m c 7 t) (iblk m c 8 t) (iblk m c 9 t)
      (iblk m c 10 t) (iblk m c 11 t) (iblk m c 12 t) C r k
    unfold blockAt
    rw [hA']
    pointwise [k0_pay1, k0_pay139, ple, rms, sigm, dot, zero_sub]

end Cert.Proof.Mix

end
-- ==== Proof.MixCarry.lean ====
/- The rows one grid point of the channel mixer leaves for the next one, read at an index. -/
module

public import proofs.«01_k».proof.Proof.MixBlock
public import Idealize.ShloMosaic.Lib.Pipeline.ValueKit
public import Idealize.ShloMosaic.Lib.Pipeline.ReadBack

@[expose] public section

set_option maxRecDepth 16384

noncomputable section

namespace Cert.Proof.Mix

open Idealize.ShloMosaic Idealize.ShloMosaic.TcCoe Idealize.SL.Sem
open Cert.MixIdeal Cert.MixIdeal.Gen Cert.Proof.Math Cert.Proof.Ffn

variable (m : (ℓ : Loc nD τ sig) → Buf (Elt Ideal) ℓ)

set_option maxHeartbeats 8000000 in
/-- The rows a grid point leaves for the next are the last 8 rows of its projection. -/
theorem carry_apply (c : Dev nD) (t : Fin cfg0.N) (a : Fin 8) (q : Fin 5632) :
    (outsAt0 m c t.val t.isLt).2 (ix2 a q) = dot (fun k => k0_pay3 (F := Ideal) (iblk m c 0 t) (iblk m c 1 t) (iblk m c 2 t)
      (iblk m c 3 t) (ix2 ⟨504 + a.val, by omega⟩ k)) (fun k => (iblk m c 4 t : FVec Ideal S1024x5632 .bf16) (ix2 k q)) := by
  by_cases hc : t.val % 8 = 0
  all_goals first | rw [Gen.outsAt0_A m c t hc] | rw [Gen.outsAt0_B m c t hc]
  all_goals
    frame_open
    simp (disch := decide) only [↓ shift_read, ↓ View.readCov_skip, ↓ View.readCov_cons_toLoadRect, ↓ View.readCov_fill,
      read_unread_whole]
    frame_out
    simp only [k0_pay6]
    generalize k0_pay3 (F := Ideal) (iblk m c 0 t) (iblk m c 1 t) (iblk m c 2 t) (iblk m c 3 t) = H
    have core := carry_eq H (iblk m c 4 t)
    try (rw [canon_dropLast _ _ (View.cover_of_tiled_head _ _ _ (by rfl) _)]; simp only [List.dropLast_cons₂, List.dropLast_singleton])
    canon_tiles x h
  all_goals idx_vars x
  all_goals first
    | refine Eq.trans ?_ (core x0 _ x1 _ _ (by decide) h0 h1)
    | refine Eq.trans ?_ (core x0 _ x1 _ 0 (by decide) h0 (h1.trans (Nat.zero_add _).symm))
  all_goals
    open_payloads
    pointwise [dot]

end Cert.Proof.Mix

end
-- ==== Proof.FfnSpec.lean ====
/- The channel mixer as a function of the arrays: what the kernels and the references both compute. -/
module

public import proofs.«01_k».proof.Proof.FfnMath

@[expose] public section

noncomputable section

namespace Cert.Proof.Ffn

open Idealize.ShloMosaic Cert.Proof.Math

/-- The value `d` rows before row `s` of a column, zero before the first row. -/
def before (d : ℕ) (y : Fin 4096 → EReal) (s : Fin 4096) : EReal := if d ≤ s.val then y ⟨s.val - d, by omega⟩ else 0

/-- Row `s` of a column lies in tile `j` at row `r`: the taps over the tile and the 8 rows before it are the taps over
    the column. -/
theorem tap_eq (o : ℕ) (ho : o ≤ 8) (C : Fin 8 → EReal) (y : Fin 512 → EReal) (Y : Fin 4096 → EReal) (j : ℕ) (hj : j < 8)
    (hy : ∀ r : Fin 512, y r = Y ⟨512 * j + r.val, by omega⟩)
    (hC0 : j = 0 → ∀ a, C a = 0)
    (hC : j ≠ 0 → ∀ a : Fin 8, C a = Y ⟨512 * (j - 1) + (504 + a.val), by omega⟩) (r : Fin 512) :
    tap o ho C y r = before (8 - o) Y ⟨512 * j + r.val, by omega⟩ := by
  unfold tap before
  split
  · rename_i h
    by_cases h0 : j = 0
    · rw [hC0 h0, if_neg (by show ¬ 8 - o ≤ 512 * j + r.val; omega)]
    · rw [hC h0, if_pos (by show 8 - o ≤ 512 * j + r.val; omega)]
      exact congrArg Y (Fin.ext (by show 512 * (j - 1) + (504 + (o + r.val)) = 512 * j + r.val - (8 - o); omega))
  · rename_i h
    rw [hy, if_pos (by show 8 - o ≤ 512 * j + r.val; omega)]
    exact congrArg Y (Fin.ext (by show 512 * j + (o + r.val - 8) = 512 * j + r.val - (8 - o); omega))

variable {n : ℕ} (x : FVec Ideal ⟨3, ![16, 4096, 1024]⟩ .f32) (u : FVec Ideal ⟨3, ![16, 4096, n]⟩ .bf16)
  (wm : FVec Ideal ⟨2, ![n, 1024]⟩ .f32) (g : FVec Ideal ⟨1, ![1024]⟩ .f32) (wi : FVec Ideal ⟨2, ![1024, 5632]⟩ .f32)
  (cw : FVec Ideal ⟨2, ![3, 5632]⟩ .f32) (cb : FVec Ideal ⟨1, ![5632]⟩ .f32) (wo : FVec Ideal ⟨2, ![2816, 1024]⟩ .f32)
  (pn : FVec Ideal ⟨1, ![1024]⟩ .f32) (wg : FVec Ideal ⟨2, ![1024, 1024]⟩ .f32) (p : FVec Ideal ⟨3, ![16, 4096, 256]⟩ .f32)
  (wp : FVec Ideal ⟨2, ![256, 1024]⟩ .f32) (on : FVec Ideal ⟨1, ![1024]⟩ .f32)

/-- The hidden state after the mixer: the residual plus the mixer's output projected. -/
def h1At (b : Fin 16) (s : Fin 4096) (k : Fin 1024) : EReal :=
  x (ix3 b s k) + dot (fun j => u (ix3 b s j)) (fun j => wm (ix2 j k))

/-- The hidden state, normed. -/
def hnAt (b : Fin 16) (s : Fin 4096) (k : Fin 1024) : EReal :=
  rms 0x44800000#32 (h1At x u wm b s) (fun k => g (ix1 k)) k

/-- The projection of the normed state at column `q`. -/
def yAt (b : Fin 16) (q : Fin 5632) (s : Fin 4096) : EReal := dot (hnAt x u wm g b s) (fun k => wi (ix2 k q))

/-- The causal convolution of the projection at column `q`. -/
def convAt (b : Fin 16) (s : Fin 4096) (q : Fin 5632) : EReal :=
  conv3 (yAt x u wm g wi b q s) (before 1 (yAt x u wm g wi b q) s) (before 2 (yAt x u wm g wi b q) s)
    (cw (ix2 0 q)) (cw (ix2 1 q)) (cw (ix2 2 q)) (cb (ix1 q))

/-- The hidden unit `j`: the gated linear unit of columns `j` and `2816 + j`. -/
def hidAt (b : Fin 16) (s : Fin 4096) (j : Fin 2816) : EReal :=
  glu (convAt x u wm g wi cw cb b s ⟨j.val, by omega⟩) (convAt x u wm g wi cw cb b s ⟨2816 + j.val, by omega⟩)

/-- The hidden state after the feed forward part. -/
def h2At (b : Fin 16) (s : Fin 4096) (k : Fin 1024) : EReal :=
  ffn (h1At x u wm b s) (hidAt x u wm g wi cw cb b s) (fun j k => wo (ix2 j k)) k

/-- The hidden state after the gated embedding of the layer: what the channel mixer returns. -/
def h3At (b : Fin 16) (s : Fin 4096) (k : Fin 1024) : EReal :=
  ple (h2At x u wm g wi cw cb wo b s) (fun k => pn (ix1 k)) (fun j k => wg (ix2 j k)) (fun j => p (ix3 b s j))
    (fun j k => wp (ix2 j k)) k

/-- The same followed by the last norm. -/
def outAt (b : Fin 16) (s : Fin 4096) (k : Fin 1024) : EReal :=
  rms 0x44800000#32 (h3At x u wm g wi cw cb wo pn wg p wp b s) (fun k => on (ix1 k)) k

end Cert.Proof.Ffn

end
-- ==== Proof.MixArray.lean ====
/- The array the last channel mixer leaves, as one function of its arguments. -/
module

public import proofs.«01_k».proof.Proof.MixCarry
public import proofs.«01_k».proof.Proof.FfnSpec
public import Idealize.ShloMosaic.Lib.Claim

@[expose] public section

set_option maxRecDepth 16384

noncomputable section

namespace Cert.Proof.Mix

open Idealize.ShloMosaic Idealize.ShloMosaic.TcCoe Idealize.SL.Sem
open Cert.MixIdeal Cert.MixIdeal.Gen Cert.Proof.Math Cert.Proof.Ffn

variable (m : (ℓ : Loc nD τ sig) → Buf (Elt Ideal) ℓ)

theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 8, t.val % 8, 0] ∧ win0_11.index t = ![0, 0] ∧ win0_12.index t = ![0, 0]
    ∧ win0_13.index t = ![t.val / 8, t.val % 8, 0] :=
  (by decide +kernel : ∀ t : Fin grid0.N, _)

theorem t_lt (t : Fin cfg0.N) : t.val < 128 := t.isLt

/-- The block the kernel reads, read at a row and column of it, is the array read at the block's place. -/
theorem read0 (c : Dev nD) (t : Fin cfg0.N) (r : Fin 512) (k : Fin 1024) :
    iblk m c 0 t (ix3 0 r k) = m ((c : Thread nD τ).loc main_arg0)
      (ix3 ⟨t.val / 8, by have := t_lt t; omega⟩ ⟨512 * (t.val % 8) + r.val, by omega⟩ k) := by
  blk_ext [iblk, V, idx t]
theorem read1 (c : Dev nD) (t : Fin cfg0.N) (r : Fin 512) (k : Fin 2048) :
    iblk m c 1 t (ix3 0 r k) = m ((c : Thread nD τ).loc main_arg1)
      (ix3 ⟨t.val / 8, by have := t_lt t; omega⟩ ⟨512 * (t.val % 8) + r.val, by omega⟩ k) := by
  blk_ext [iblk, V, idx t]
theorem read2 (c : Dev nD) (t : Fin cfg0.N) (k : Fin 2048) (j : Fin 1024) :
    iblk m c 2 t (ix2 k j) = m ((c : Thread nD τ).loc main_arg2) (ix2 k j) := by
  blk_simp [iblk, idx t]
  entry_read
  pointwise
  blk_point [iblk, V, idx t]
theorem read3 (c : Dev nD) (t : Fin cfg0.N) (k : Fin 1024) :
    iblk m c 3 t (ix2 0 k) = m ((c : Thread nD τ).loc main_arg3) (ix1 k) := by
  blk_simp [iblk, idx t]
  entry_read
  pointwise
  blk_point [iblk, V, idx t]
theorem read4 (c : Dev nD) (t : Fin cfg0.N) (k : Fin 1024) (j : Fin 5632) :
    iblk m c 4 t (ix2 k j) = m ((c : Thread nD τ).loc main_arg4) (ix2 k j) := by
  blk_simp [iblk, idx t]
  entry_read
  pointwise
  blk_point [iblk, V, idx t]
theorem read5 (c : Dev nD) (t : Fin cfg0.N) (k : Fin 3) (j : Fin 5632) :
    iblk m c 5 t (ix2 k j) = m ((c : Thread nD τ).loc main_arg5) (ix2 k j) := by
  blk_simp [iblk, idx t]
  entry_read
  pointwise
  blk_point [iblk, V, idx t]
theorem read6 (c : Dev nD) (t : Fin cfg0.N) (k : Fin 5632) :
    iblk m c 6 t (ix2 0 k) = m ((c : Thread nD τ).loc main_arg6) (ix1 k) := by
  blk_simp [iblk, idx t]
  entry_read
  pointwise
  blk_point [iblk, V, idx t]
theorem read7 (c : Dev nD) (t : Fin cfg0.N) (k : Fin 2816) (j : Fin 1024) :
    iblk m c 7 t (ix2 k j) = m ((c : Thread nD τ).loc main_arg7) (ix2 k j) := by
  blk_simp [iblk, idx t]
  entry_read
  pointwise
  blk_point [iblk, V, idx t]
theorem read8 (c : Dev nD) (t : Fin cfg0.N) (k : Fin 1024) :
    iblk m c 8 t (ix2 0 k) = m ((c : Thread nD τ).loc main_arg8) (ix1 k) := by
  blk_simp [iblk, idx t]
  entry_read
  pointwise
  blk_point [iblk, V, idx t]
theorem read9 (c : Dev nD) (t : Fin cfg0.N) (k : Fin 1024) (j : Fin 1024) :
    iblk m c 9 t (ix2 k j) = m ((c : Thread nD τ).loc main_arg9) (ix2 k j) := by
  blk_simp [iblk, idx t]
  entry_read
  pointwise
  blk_point [iblk, V, idx t]
theorem read10 (c : Dev nD) (t : Fin cfg0.N) (r : Fin 512) (k : Fin 256) :
    iblk m c 10 t (ix3 0 r k) = m ((c : Thread nD τ).loc main_arg10)
      (ix3 ⟨t.val / 8, by have := t_lt t; omega⟩ ⟨512 * (t.val % 8) + r.val, by omega⟩ k) := by
  blk_ext [iblk, V, idx t]
theorem read11 (c : Dev nD) (t : Fin cfg0.N) (k : Fin 256) (j : Fin 1024) :
    iblk m c 11 t (ix2 k j) = m ((c : Thread nD τ).loc main_arg11) (ix2 k j) := by
  blk_simp [iblk, idx t]
  entry_read
  pointwise
  blk_point [iblk, V, idx t]
theorem read12 (c : Dev nD) (t : Fin cfg0.N) (k : Fin 1024) :
    iblk m c 12 t (ix2 0 k) = m ((c : Thread nD τ).loc main_arg12) (ix1 k) := by
  blk_simp [iblk, idx t]
  entry_read
  pointwise
  blk_point [iblk, V, idx t]

/-- The batch of a grid point. -/
def bOf (t : Fin cfg0.N) : Fin 16 := ⟨t.val / 8, by have := t_lt t; omega⟩

/-- The place in the sequence of row `r` of a grid point's block. -/
def sOf (t : Fin cfg0.N) (r : Fin 512) : Fin 4096 := ⟨512 * (t.val % 8) + r.val, by omega⟩

theorem h1_eq (c : Dev nD) (t : Fin cfg0.N) (r : Fin 512) (k : Fin 1024) :
    k0_pay4 (F := Ideal) (iblk m c 0 t) (iblk m c 1 t) (iblk m c 2 t) (ix2 r k)
      = h1At (m ((c : Thread nD τ).loc main_arg0)) (m ((c : Thread nD τ).loc main_arg1))
          (m ((c : Thread nD τ).loc main_arg2)) (bOf t) (sOf t r) k := by
  rw [pay4_apply]
  unfold h1At dot bOf sOf
  simp only [read0, read1, read2]

theorem hn_eq (c : Dev nD) (t : Fin cfg0.N) (r : Fin 512) (k : Fin 1024) :
    k0_pay3 (F := Ideal) (iblk m c 0 t) (iblk m c 1 t) (iblk m c 2 t) (iblk m c 3 t) (ix2 r k)
      = hnAt (m ((c : Thread nD τ).loc main_arg0)) (m ((c : Thread nD τ).loc main_arg1))
          (m ((c : Thread nD τ).loc main_arg2)) (m ((c : Thread nD τ).loc main_arg3)) (bOf t) (sOf t r) k := by
  rw [pay3_apply]
  unfold hnAt h1At dot bOf sOf
  simp only [read0, read1, read2, read3]

theorem y_eq (c : Dev nD) (t : Fin cfg0.N) (r : Fin 512) (q : Fin 5632) :
    dot (fun k => k0_pay3 (F := Ideal) (iblk m c 0 t) (iblk m c 1 t) (iblk m c 2 t) (iblk m c 3 t) (ix2 r k))
        (fun k => (iblk m c 4 t : FVec Ideal S1024x5632 .bf16) (ix2 k q))
      = yAt (m ((c : Thread nD τ).loc main_arg0)) (m ((c : Thread nD τ).loc main_arg1))
          (m ((c : Thread nD τ).loc main_arg2)) (m ((c : Thread nD τ).loc main_arg3))
          (m ((c : Thread nD τ).loc main_arg4)) (bOf t) q (sOf t r) := by
  unfold yAt
  simp only [hn_eq, read4]

/-- The carried rows are zero at the start of a sequence; -/
theorem carried_zero (c : Dev nD) (t : Fin cfg0.N) (h : t.val % 8 = 0) (a : Fin 8) (q : Fin 5632) :
    carried m c t (ix2 a q) = 0 := by
  unfold carried
  rw [if_pos h]
  exact pay5_apply a q

/-- elsewhere they are the last 8 rows of the tile before. -/
theorem carried_prev (c : Dev nD) (t : Fin cfg0.N) (h : t.val % 8 ≠ 0) (a : Fin 8) (q : Fin 5632) :
    carried m c t (ix2 a q) = yAt (m ((c : Thread nD τ).loc main_arg0)) (m ((c : Thread nD τ).loc main_arg1))
        (m ((c : Thread nD τ).loc main_arg2)) (m ((c : Thread nD τ).loc main_arg3))
        (m ((c : Thread nD τ).loc main_arg4)) (bOf t) q
      ⟨512 * (t.val % 8 - 1) + (504 + a.val), by omega⟩ := by
  unfold carried
  rw [if_neg h]
  have ht : t.val - 1 < cfg0.N := Nat.lt_of_le_of_lt (Nat.sub_le _ _) t.isLt
  refine (carry_apply m c ⟨t.val - 1, ht⟩ a q).trans ((y_eq m c ⟨t.val - 1, ht⟩ _ q).trans ?_)
  refine congr (congrArg (yAt (m ((c : Thread nD τ).loc main_arg0)) (m ((c : Thread nD τ).loc main_arg1))
      (m ((c : Thread nD τ).loc main_arg2)) (m ((c : Thread nD τ).loc main_arg3))
          (m ((c : Thread nD τ).loc main_arg4)) · q) (Fin.ext ?_)) (Fin.ext ?_)
  · show (t.val - 1) / 8 = t.val / 8
    omega
  · show 512 * ((t.val - 1) % 8) + (504 + a.val) = 512 * (t.val % 8 - 1) + (504 + a.val)
    omega

theorem conv_eq (c : Dev nD) (t : Fin cfg0.N) (r : Fin 512) (q : Fin 5632) :
    conv (k0_pay3 (F := Ideal) (iblk m c 0 t) (iblk m c 1 t) (iblk m c 2 t) (iblk m c 3 t)) (iblk m c 4 t) (iblk m c 5 t)
        (iblk m c 6 t) (carried m c t) r q
      = convAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (bOf t) (sOf t r) q := by
  unfold conv convB convAt
  have T := fun o ho => tap_eq o ho (fun a => carried m c t (ix2 a q))
    (fun s => dot (fun k => k0_pay3 (F := Ideal) (iblk m c 0 t) (iblk m c 1 t) (iblk m c 2 t) (iblk m c 3 t) (ix2 s k))
      (fun k => (iblk m c 4 t : FVec Ideal S1024x5632 .bf16) (ix2 k q)))
    (yAt (m ((c : Thread nD τ).loc main_arg0)) (m ((c : Thread nD τ).loc main_arg1))
        (m ((c : Thread nD τ).loc main_arg2)) (m ((c : Thread nD τ).loc main_arg3))
        (m ((c : Thread nD τ).loc main_arg4)) (bOf t) q) (t.val % 8)
    (Nat.mod_lt _ (by decide)) (fun r => y_eq m c t r q) (fun h a => carried_zero m c t h a q)
    (fun h a => carried_prev m c t h a q) r
  rw [T, T]
  simp only [y_eq, read5, read6]
  rfl

/-- The block function over the blocks of a grid point is the array function at the block's rows. -/
theorem block_eq (c : Dev nD) (t : Fin cfg0.N) (r : Fin 512) (k : Fin 1024) :
    blockAt (k0_pay4 (F := Ideal) (iblk m c 0 t) (iblk m c 1 t) (iblk m c 2 t))
      (k0_pay3 (F := Ideal) (iblk m c 0 t) (iblk m c 1 t) (iblk m c 2 t) (iblk m c 3 t)) (iblk m c 4 t) (iblk m c 5 t)
      (iblk m c 6 t) (iblk m c 7 t) (iblk m c 8 t) (iblk m c 9 t) (iblk m c 10 t) (iblk m c 11 t) (iblk m c 12 t)
      (carried m c t) r k
      = outAt (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5))
          (m ((c : Thread nD τ).loc main_arg6)) (m ((c : Thread nD τ).loc main_arg7))
          (m ((c : Thread nD τ).loc main_arg8)) (m ((c : Thread nD τ).loc main_arg9))
          (m ((c : Thread nD τ).loc main_arg10)) (m ((c : Thread nD τ).loc main_arg11))
          (m ((c : Thread nD τ).loc main_arg12))
        (bOf t) (sOf t r) k := by
  unfold blockAt outAt h3At h2At hid hidAt
  have e : (fun k => k0_pay4 (F := Ideal) (iblk m c 0 t) (iblk m c 1 t) (iblk m c 2 t) (ix2 r k))
      = h1At (m ((c : Thread nD τ).loc main_arg0)) (m ((c : Thread nD τ).loc main_arg1))
          (m ((c : Thread nD τ).loc main_arg2)) (bOf t) (sOf t r) := funext fun k => h1_eq m c t r k
  have e10 : ∀ j, iblk m c 10 t (ix3 0 r j) = m ((c : Thread nD τ).loc main_arg10) (ix3 (bOf t) (sOf t r) j) := read10 m c t r
  simp only [e, conv_eq, read7, read8, read9, e10, read11, read12]

/-- The result array after the run. -/
theorem final (c : Dev nD) : (dats m 0 c).arrAt 13 (cfgs 0).N = fun i : S16x4096x1024.Idx =>
    outAt (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7))
        (m ((c : Thread nD τ).loc main_arg8)) (m ((c : Thread nD τ).loc main_arg9))
        (m ((c : Thread nD τ).loc main_arg10)) (m ((c : Thread nD τ).loc main_arg11))
        (m ((c : Thread nD τ).loc main_arg12))
      (i 0) (i 1) (i 2) := by
  refine (dats m 0 c).arrAt_eq_of_covers 13 _ (by decide +kernel) fun t _ y => ?_
  blk_simp
  rw [after0_13]
  refine (outs_apply m c t y).trans ?_
  refine (block_eq m c t (y 1) (y 2)).trans ?_
  refine congr (congr (congrArg _ (Fin.ext ?_)) (Fin.ext ?_)) (Fin.ext ?_) <;> blk_simp [idx t]
  · rfl
  · show 512 * (t.val % 8) + (y 1).val = t.val % 8 * 512 + (y 1).val
    omega

end Cert.Proof.Mix

end
-- ==== Proof.MixRef.lean ====
/- The reference of the last channel mixer, read at an index. -/
module

public import proofs.«01_k».proof.Proof.FfnSpec
public import proofs.«01_k».proof.Proof.Gen.MixRefIdeal.Read
public import Idealize.ShloMosaic.Lib.Pointwise

@[expose] public section

set_option maxRecDepth 16384

noncomputable section

namespace Cert.Proof.MixRef

open Idealize.ShloMosaic Idealize.ShloMosaic.TcCoe Idealize.SL.Sem
open Cert.MixRefIdeal Cert.MixRefIdeal.Read Cert.Proof.Math Cert.Proof.Ffn

variable (x0 : FVec Ideal S16x4096x1024 .f32) (x1 : FVec Ideal S16x4096x2048 .bf16) (x2 : FVec Ideal S2048x1024 .f32)
  (x3 : FVec Ideal S1024 .f32) (x4 : FVec Ideal S1024x5632 .f32) (x5 : FVec Ideal S3x5632 .f32)
  (x6 : FVec Ideal S5632 .f32) (x7 : FVec Ideal S2816x1024 .f32) (x8 : FVec Ideal S1024 .f32)
  (x9 : FVec Ideal S1024x1024 .f32) (x10 : FVec Ideal S16x4096x256 .f32) (x11 : FVec Ideal S256x1024 .f32)
  (x12 : FVec Ideal S1024 .f32)

theorem h1_apply (b : Fin 16) (s : Fin 4096) (k : Fin 1024) :
    val_main_v2 (F := Ideal) x0 x1 x2 (ix3 b s k) = h1At x0 x1 x2 b s k := by
  pointwise [val_main_v2, val_main_v1, val_main_v0, h1At, dot]

theorem hn_apply (b : Fin 16) (s : Fin 4096) (k : Fin 1024) :
    val_main_v15 (F := Ideal) x0 x1 x2 x3 (ix3 b s k) = hnAt x0 x1 x2 x3 b s k := by
  pointwise [val_main_v15, val_main_v14, val_main_v13, val_main_v12, val_main_v11, val_main_v10, val_main_v9,
    val_main_v8, val_main_v7, val_main_v6, val_main_v5, val_main_v4, val_main_v3, val_main_cst, val_main_cst_0,
    val_main_cst_1, hnAt, rms, h1_apply]

theorem y_apply (b : Fin 16) (s : Fin 4096) (q : Fin 5632) :
    val_main_v16 (F := Ideal) x0 x1 x2 x3 x4 (ix3 b s q) = yAt x0 x1 x2 x3 x4 b q s := by
  pointwise [val_main_v16, yAt, dot, hn_apply]

theorem pad_apply (b : Fin 16) (s : Fin 4098) (q : Fin 5632) :
    val_main_v17 (F := Ideal) x0 x1 x2 x3 x4 (ix3 b s q)
      = if h : 2 ≤ s.val then yAt x0 x1 x2 x3 x4 b q ⟨s.val - 2, by omega⟩ else 0 := by
  pointwise [val_main_v17, val_main_call0_v0, val_main_c, y_apply]
  have z : FloatOps.sitofp (F := Ideal) .f32 (0#32 : BitVec 32) = (0 : EReal) := by
    show (((0#32 : BitVec 32).toInt : ℝ) : EReal) = 0
    simp
  by_cases h : 2 ≤ s.val
  · rw [dif_pos ⟨h, by omega⟩, dif_pos h]
  · rw [dif_neg (fun h' => h h'.1), dif_neg h]
    exact z

theorem shift0 (b : Fin 16) (s : Fin 4096) (q : Fin 5632) :
    val_main_v18 (F := Ideal) x0 x1 x2 x3 x4 (ix3 b s q) = before 2 (yAt x0 x1 x2 x3 x4 b q) s := by
  pointwise [val_main_v18, pad_apply, before]
  by_cases h : 2 ≤ s.val
  · rw [dif_pos h, if_pos h]
  · rw [dif_neg h, if_neg h]

theorem shift1 (b : Fin 16) (s : Fin 4096) (q : Fin 5632) :
    val_main_v26 (F := Ideal) x0 x1 x2 x3 x4 (ix3 b s q) = before 1 (yAt x0 x1 x2 x3 x4 b q) s := by
  pointwise [val_main_v26, pad_apply, before]
  by_cases h : 1 ≤ s.val
  · rw [dif_pos (by omega), if_pos h]
    exact congrArg _ (Fin.ext (by show 1 + s.val - 2 = s.val - 1; omega))
  · rw [dif_neg (by omega), if_neg h]

theorem shift2 (b : Fin 16) (s : Fin 4096) (q : Fin 5632) :
    val_main_v33 (F := Ideal) x0 x1 x2 x3 x4 (ix3 b s q) = yAt x0 x1 x2 x3 x4 b q s := by
  pointwise [val_main_v33, pad_apply]

/-- Four summands in the kernel's order. -/
theorem add_rows (a b c d : EReal) : a + b + c + d = c + d + a + b := by
  rw [add_assoc (a + b), add_comm (a + b), ← add_assoc]

theorem conv_apply (b : Fin 16) (s : Fin 4096) (q : Fin 5632) :
    val_main_v42 (F := Ideal) x0 x1 x2 x3 x4 x5 x6 (ix3 b s q) = convAt x0 x1 x2 x3 x4 x5 x6 b s q := by
  pointwise [val_main_v42, val_main_v41, val_main_v40, val_main_v39, val_main_v38, val_main_v37, val_main_v36,
    val_main_v35, val_main_v34, val_main_v32, val_main_v31, val_main_v30, val_main_v29, val_main_v28, val_main_v27,
    val_main_v25, val_main_v24, val_main_cst_2, val_main_v23, val_main_v22, val_main_v21, val_main_v20, val_main_v19,
    shift0, shift1, shift2, convAt, conv3]
  exact add_rows _ _ _ _

theorem hid_apply (b : Fin 16) (s : Fin 4096) (j : Fin 2816) :
    val_main_v46 (F := Ideal) x0 x1 x2 x3 x4 x5 x6 (ix3 b s j) = hidAt x0 x1 x2 x3 x4 x5 x6 b s j := by
  pointwise [val_main_v46, val_main_v45, val_main_call1_v5, val_main_call1_v4, val_main_call1_v3, val_main_call1_v2,
    val_main_call1_v1, val_main_call1_v0, val_main_call1_cst, val_main_call1_cst_0, val_main_v44, val_main_v43,
    conv_apply, hidAt, glu, sigm]

theorem h2_apply (b : Fin 16) (s : Fin 4096) (k : Fin 1024) :
    val_main_v48 (F := Ideal) x0 x1 x2 x3 x4 x5 x6 x7 (ix3 b s k) = h2At x0 x1 x2 x3 x4 x5 x6 x7 b s k := by
  pointwise [val_main_v48, val_main_v47, h1_apply, hid_apply, h2At, ffn, dot]

theorem gate_apply (b : Fin 16) (s : Fin 4096) (k : Fin 1024) :
    val_main_v61 (F := Ideal) x0 x1 x2 x3 x4 x5 x6 x7 x8 (ix3 b s k)
      = rms 0x44800000#32 (h2At x0 x1 x2 x3 x4 x5 x6 x7 b s) (fun k => x8 (ix1 k)) k := by
  pointwise [val_main_v61, val_main_v60, val_main_v59, val_main_v58, val_main_v57, val_main_v56, val_main_v55,
    val_main_v54, val_main_v53, val_main_v52, val_main_v51, val_main_v50, val_main_v49, val_main_cst_3, val_main_cst_4,
    val_main_cst_5, rms, h2_apply]

theorem h3_apply (b : Fin 16) (s : Fin 4096) (k : Fin 1024) :
    val_main_v71 (F := Ideal) x0 x1 x2 x3 x4 x5 x6 x7 x8 x9 x10 x11 (ix3 b s k)
      = h3At x0 x1 x2 x3 x4 x5 x6 x7 x8 x9 x10 x11 b s k := by
  pointwise [val_main_v71, val_main_v70, val_main_v69, val_main_v68, val_main_v67, val_main_v66, val_main_v65,
    val_main_v64, val_main_v63, val_main_v62, val_main_cst_6, val_main_cst_7, gate_apply, h2_apply, h3At, ple, sigm, dot]

theorem ref_apply (b : Fin 16) (s : Fin 4096) (k : Fin 1024) :
    val_main_v84 (F := Ideal) x0 x1 x2 x3 x4 x5 x6 x7 x8 x9 x10 x11 x12 (ix3 b s k)
      = outAt x0 x1 x2 x3 x4 x5 x6 x7 x8 x9 x10 x11 x12 b s k := by
  pointwise [val_main_v84, val_main_v83, val_main_v82, val_main_v81, val_main_v80, val_main_v79, val_main_v78,
    val_main_v77, val_main_v76, val_main_v75, val_main_v74, val_main_v73, val_main_v72, val_main_cst_8, val_main_cst_9,
    val_main_cst_10, outAt, rms, h3_apply]

end Cert.Proof.MixRef

end
-- ==== Proof.MixClaims.lean ====
/- The claim about the last channel mixer: the two runs end with the same array. -/
module

public import proofs.«01_k».proof.Defs
public import proofs.«01_k».proof.Proof.MixArray
public import proofs.«01_k».proof.Proof.MixRef
public import proofs.«01_k».proof.Proof.Gen.MixRefIdeal.Run

@[expose] public section

set_option maxRecDepth 16384

noncomputable section

namespace Cert.Proof.MixClaims

open Idealize.ShloMosaic Idealize.ShloMosaic.TcCoe Idealize.SL.Sem

/-- From memories that agree on the arguments the kernel's result array and the reference's are the same function. -/
theorem algebraic : Cert.algebraic_MixIdeal_MixRefIdeal := by
  intro m ρ m' ρ' _ hagree
  refine ⟨_, Cert.MixIdeal.Value.run_blocks (F := Ideal) m ρ, ?_⟩
  refine (θ_run Cert.MixRefIdeal.defs _ _).mono (fun _ h c => ⟨(h c).1.trans ?_, (h c).2⟩)
    (Cert.MixRefIdeal.Value.run (F := Ideal) m' ρ')
  obtain ⟨h0, h1, h2, h3, h4, h5, h6, h7, h8, h9, h10, h11, h12⟩ := hagree c
  rw [Cert.MixRefIdeal.Read.val_main_v84_eq]
  show Cert.MixRefIdeal.Read.val_main_v84 (F := Ideal)
    (m' (c.tc.loc Cert.MixRefIdeal.main_arg0)) (m' (c.tc.loc Cert.MixRefIdeal.main_arg1))
    (m' (c.tc.loc Cert.MixRefIdeal.main_arg2)) (m' (c.tc.loc Cert.MixRefIdeal.main_arg3))
    (m' (c.tc.loc Cert.MixRefIdeal.main_arg4)) (m' (c.tc.loc Cert.MixRefIdeal.main_arg5))
    (m' (c.tc.loc Cert.MixRefIdeal.main_arg6)) (m' (c.tc.loc Cert.MixRefIdeal.main_arg7))
    (m' (c.tc.loc Cert.MixRefIdeal.main_arg8)) (m' (c.tc.loc Cert.MixRefIdeal.main_arg9))
    (m' (c.tc.loc Cert.MixRefIdeal.main_arg10)) (m' (c.tc.loc Cert.MixRefIdeal.main_arg11))
    (m' (c.tc.loc Cert.MixRefIdeal.main_arg12)) = _
  rw [h0, h1, h2, h3, h4, h5, h6, h7, h8, h9, h10, h11, h12]
  refine Eq.trans (funext fun i => ?_) (Cert.Proof.Mix.final m c).symm
  rw [eq_ix3 i]
  exact Cert.Proof.MixRef.ref_apply _ _ _ _ _ _ _ _ _ _ _ _ _ _ _ _

end Cert.Proof.MixClaims

end
-- ==== Proof.MidBlock.lean ====
/- What one grid point of the first channel mixer leaves in its output block and in the rows it carries, read at an index. -/
module

public import proofs.«01_k».proof.Proof.FfnBlock
public import proofs.«01_k».proof.Proof.Gen.MidIdeal.Value

@[expose] public section

set_option maxRecDepth 16384

noncomputable section

namespace Cert.Proof.Mid

open Idealize.ShloMosaic Idealize.ShloMosaic.TcCoe Idealize.SL.Sem
open Cert.MidIdeal Cert.MidIdeal.Gen Cert.Proof.Math Cert.Proof.Ffn

variable (m : (ℓ : Loc nD τ sig) → Buf (Elt Ideal) ℓ)

/-- The residual row plus the projected mixer output. -/
theorem pay4_apply (x : FVec Ideal S1x512x1024 .f32) (u : FVec Ideal S1x512x1024 .bf16) (w : FVec Ideal S1024x1024 .bf16)
    (r : Fin 512) (k : Fin 1024) : k0_pay4 (F := Ideal) x u w (ix2 r k)
      = x (ix3 0 r k) + dot (fun j => u (ix3 0 r j)) (fun j => w (ix2 j k)) := by
  pointwise [k0_pay4, k0_pay2, dot]

/-- The normed rows. -/
theorem pay3_apply (x : FVec Ideal S1x512x1024 .f32) (u : FVec Ideal S1x512x1024 .bf16) (w : FVec Ideal S1024x1024 .bf16)
    (g : FVec Ideal S1x1024 .f32) (r : Fin 512) (k : Fin 1024) : k0_pay3 (F := Ideal) x u w g (ix2 r k)
      = rms 0x44800000#32 (fun k => x (ix3 0 r k) + dot (fun j => u (ix3 0 r j)) (fun j => w (ix2 j k)))
        (fun k => g (ix2 0 k)) k := by
  pointwise [k0_pay3, k0_pay2, dot, rms]

/-- The rows carried into the first tile of a sequence are zero. -/
theorem pay5_apply (a : Fin 8) (q : Fin 5632) : k0_pay5 (F := Ideal) (ix2 a q) = 0 := by
  pointwise [k0_pay5]

/-- The carried rows a grid point starts from. -/
def carried (c : Dev nD) (t : Fin cfg0.N) : FVec Ideal S8x5632 .f32 :=
  if t.val % 8 = 0 then k0_pay5 (F := Ideal) else (outsAt0 m c (t.val - 1) (Nat.lt_of_le_of_lt (Nat.sub_le _ _) t.isLt)).2

/-- The output block at row `r`, column `k`, from the residual rows `A`, the normed rows `H` and the input blocks. -/
def blockAt (A : FVec Ideal S512x1024 .f32) (H : FVec Ideal S512x1024 .bf16) (w : FVec Ideal S1024x5632 .bf16)
    (cw : FVec Ideal S3x5632 .f32) (cb : FVec Ideal S1x5632 .f32) (wo : FVec Ideal S2816x1024 .bf16)
    (pn : FVec Ideal S1x1024 .f32) (wg : FVec Ideal S1024x1024 .bf16) (p : FVec Ideal S1x512x256 .f32)
    (wp : FVec Ideal S256x1024 .bf16) (C : FVec Ideal S8x5632 .f32)
    (r : Fin 512) (k : Fin 1024) : EReal :=
  ple (ffn (fun k => A (ix2 r k)) (hid H w cw cb C r) (fun j k => wo (ix2 j k)))
    (fun k => pn (ix2 0 k)) (fun j k => wg (ix2 j k)) (fun j => p (ix3 0 r j)) (fun j k => wp (ix2 j k)) k

set_option maxHeartbeats 8000000 in
theorem outs_apply (c : Dev nD) (t : Fin cfg0.N) (y : S1x512x1024.Idx) :
    (outsAt0 m c t.val t.isLt).1 y = blockAt (k0_pay4 (F := Ideal) (iblk m c 0 t) (iblk m c 1 t) (iblk m c 2 t))
      (k0_pay3 (F := Ideal) (iblk m c 0 t) (iblk m c 1 t) (iblk m c 2 t) (iblk m c 3 t)) (iblk m c 4 t) (iblk m c 5 t)
      (iblk m c 6 t) (iblk m c 7 t) (iblk m c 8 t) (iblk m c 9 t) (iblk m c 10 t) (iblk m c 11 t)
      (carried m c t) (y 1) (y 2) := by
  unfold carried
  split <;> rename_i h
  all_goals first | rw [Gen.outsAt0_A m c t h] | rw [Gen.outsAt0_B m c t h]
  all_goals
    frame_open
    simp (disch := decide) only [↓ shift_read, ↓ View.readCov_skip, ↓ View.readCov_cons_toLoadRect, ↓ View.readCov_fill,
      read_unread_whole]
    frame_out
  all_goals first
    | have h' : ¬ t.val % 8 = 0 := h
      generalize (outsAt0 m c (t.val - 1) _).2 = X
      have hC : View.read (Elt Ideal) (View.whole cc0_scratch1) ((Memref.isWhole_whole cc0_scratch1).unread X) = X :=
        read_unread_whole _ _ _
      generalize View.read (Elt Ideal) (View.whole cc0_scratch1) _ = C at hC ⊢
      subst hC
      clear h'
    | generalize k0_pay5 (F := Ideal) = C
  all_goals
    simp only [k0_pay6]
    generalize k0_pay4 (F := Ideal) (iblk m c 0 t) (iblk m c 1 t) (iblk m c 2 t) = A0
    generalize k0_pay3 (F := Ideal) (iblk m c 0 t) (iblk m c 1 t) (iblk m c 2 t) (iblk m c 3 t) = H
    generalize e : k0_pay18 (F := Ideal) _ _ _ _ _ _ = A1
    have h1 : ∀ r k, A1 (ix2 r k) = A0 (ix2 r k) + part (fun j => hid H (iblk m c 4 t) (iblk m c 5 t) (iblk m c 6 t) C r j
        * (iblk m c 7 t : FVec Ideal S2816x1024 .bf16) (ix2 j k)) 0 (by decide) := by
      intro r k
      rw [← e]
      refine Eq.trans ?_ (part_eq H _ _ _ _ C r k _ 0 2816 (by decide) (by decide))
      open_payloads
      pointwise [glu, sigm, conv, convB, conv3, tap, shift, dot, zero_sub]
    clear e
    generalize e : k0_pay30 (F := Ideal) _ _ _ _ _ _ _ _ = A2
    have h2 : ∀ r k, A2 (ix2 r k) = A1 (ix2 r k) + part (fun j => hid H (iblk m c 4 t) (iblk m c 5 t) (iblk m c 6 t) C r j
        * (iblk m c 7 t : FVec Ideal S2816x1024 .bf16) (ix2 j k)) 256 (by decide) := by
      intro r k
      rw [← e]
      refine Eq.trans ?_ (part_eq H _ _ _ _ C r k _ 256 3072 (by decide) (by decide))
      open_payloads
      pointwise [glu, sigm, conv, convB, conv3, tap, shift, dot, zero_sub]
    clear e
    generalize e : k0_pay42 (F := Ideal) _ _ _ _ = A3
    have h3 : ∀ r k, A3 (ix2 r k) = A2 (ix2 r k) + part (fun j => hid H (iblk m c 4 t) (iblk m c 5 t) (iblk m c 6 t) C r j
        * (iblk m c 7 t : FVec Ideal S2816x1024 .bf16) (ix2 j k)) 512 (by decide) := by
      intro r k
      rw [← e]
      refine Eq.trans ?_ (part_eq H _ _ _ _ C r k _ 512 3328 (by decide) (by decide))
      open_payloads
      pointwise [glu, sigm, conv, convB, conv3, tap, shift, dot, zero_sub]
    clear e
    generalize e : k0_pay54 (F := Ideal) _ _ _ _ _ _ _ _ = A4
    have h4 : ∀ r k, A4 (ix2 r k) = A3 (ix2 r k) + part (fun j => hid H (iblk m c 4 t) (iblk m c 5 t) (iblk m c 6 t) C r j
        * (iblk m c 7 t : FVec Ideal S2816x1024 .bf16) (ix2 j k)) 768 (by decide) := by
      intro r k
      rw [← e]
      refine Eq.trans ?_ (part_eq H _ _ _ _ C r k _ 768 3584 (by decide) (by decide))
      open_payloads
      pointwise [glu, sigm, conv, convB, conv3, tap, shift, dot, zero_sub]
    clear e
    generalize e : k0_pay65 (F := Ideal) _ _ _ = A5
    have h5 : ∀ r k, A5 (ix2 r k) = A4 (ix2 r k) + part (fun j => hid H (iblk m c 4 t) (iblk m c 5 t) (iblk m c 6 t) C r j
        * (iblk m c 7 t : FVec Ideal S2816x1024 .bf16) (ix2 j k)) 1024 (by decide) := by
      intro r k
      rw [← e]
      refine Eq.trans ?_ (part_eq H _ _ _ _ C r k _ 1024 3840 (by decide) (by decide))
      open_payloads
      pointwise [glu, sigm, conv, convB, conv3, tap, shift, dot, zero_sub]
    clear e
    generalize e : k0_pay77 (F := Ideal) _ _ _ _ _ _ _ _ = A6
    have h6 : ∀ r k, A6 (ix2 r k) = A5 (ix2 r k) + part (fun j => hid H (iblk m c 4 t) (iblk m c 5 t) (iblk m c 6 t) C r j
        * (iblk m c 7 t : FVec Ideal S2816x1024 .bf16) (ix2 j k)) 1280 (by decide) := by
      intro r k
      rw [← e]
      refine Eq.trans ?_ (part_eq H _ _ _ _ C r k _ 1280 4096 (by decide) (by decide))
      open_payloads
      pointwise [glu, sigm, conv, convB, conv3, tap, shift, dot, zero_sub]
    clear e
    generalize e : k0_pay88 (F := Ideal) _ _ _ = A7
    have h7 : ∀ r k, A7 (ix2 r k) = A6 (ix2 r k) + part (fun j => hid H (iblk m c 4 t) (iblk m c 5 t) (iblk m c 6 t) C r j
        * (iblk m c 7 t : FVec Ideal S2816x1024 .bf16) (ix2 j k)) 1536 (by decide) := by
      intro r k
      rw [← e]
      refine Eq.trans ?_ (part_eq H _ _ _ _ C r k _ 1536 4352 (by decide) (by decide))
      open_payloads
      pointwise [glu, sigm, conv, convB, conv3, tap, shift, dot, zero_sub]
    clear e
    generalize e : k0_pay100 (F := Ideal) _ _ _ _ _ _ _ _ = A8
    have h8 : ∀ r k, A8 (ix2 r k) = A7 (ix2 r k) + part (fun j => hid H (iblk m c 4 t) (iblk m c 5 t) (iblk m c 6 t) C r j
        * (iblk m c 7 t : FVec Ideal S2816x1024 .bf16) (ix2 j k)) 1792 (by decide) := by
      intro r k
      rw [← e]
      refine Eq.trans ?_ (part_eq H _ _ _ _ C r k _ 1792 4608 (by decide) (by decide))
      open_payloads
      pointwise [glu, sigm, conv, convB, conv3, tap, shift, dot, zero_sub]
    clear e
    generalize e : k0_pay111 (F := Ideal) _ _ _ = A9
    have h9 : ∀ r k, A9 (ix2 r k) = A8 (ix2 r k) + part (fun j => hid H (iblk m c 4 t) (iblk m c 5 t) (iblk m c 6 t) C r j
        * (iblk m c 7 t : FVec Ideal S2816x1024 .bf16) (ix2 j k)) 2048 (by decide) := by
      intro r k
      rw [← e]
      refine Eq.trans ?_ (part_eq H _ _ _ _ C r k _ 2048 4864 (by decide) (by decide))
      open_payloads
      pointwise [glu, sigm, conv, convB, conv3, tap, shift, dot, zero_sub]
    clear e
    generalize e : k0_pay125 (F := Ideal) _ _ _ _ _ _ _ _ = A10
    have h10 : ∀ r k, A10 (ix2 r k) = A9 (ix2 r k) + part (fun j => hid H (iblk m c 4 t) (iblk m c 5 t) (iblk m c 6 t) C r j
        * (iblk m c 7 t : FVec Ideal S2816x1024 .bf16) (ix2 j k)) 2304 (by decide) := by
      intro r k
      rw [← e]
      refine Eq.trans ?_ (part_eq H _ _ _ _ C r k _ 2304 5120 (by decide) (by decide))
      open_payloads
      pointwise [glu, sigm, conv, convB, conv3, tap, shift, dot, zero_sub]
    clear e
    generalize e : k0_pay136 (F := Ideal) _ _ _ = A11
    have h11 : ∀ r k, A11 (ix2 r k) = A10 (ix2 r k) + part (fun j => hid H (iblk m c 4 t) (iblk m c 5 t) (iblk m c 6 t) C r j
        * (iblk m c 7 t : FVec Ideal S2816x1024 .bf16) (ix2 j k)) 2560 (by decide) := by
      intro r k
      rw [← e]
      refine Eq.trans ?_ (part_eq H _ _ _ _ C r k _ 2560 5376 (by decide) (by decide))
      open_payloads
      pointwise [glu, sigm, conv, convB, conv3, tap, shift, dot, zero_sub]
    clear e
    have hA : ∀ r k, A11 (ix2 r k) = ffn (fun k => A0 (ix2 r k)) (hid H (iblk m c 4 t) (iblk m c 5 t) (iblk m c 6 t) C r)
        (fun j k => (iblk m c 7 t : FVec Ideal S2816x1024 .bf16) (ix2 j k)) k := by
      intro r k
      rw [h11, h10, h9, h8, h7, h6, h5, h4, h3, h2, h1, sum_parts]
      rfl
    clear h1 h2 h3 h4 h5 h6 h7 h8 h9 h10 h11
    obtain ⟨a, r, k, rfl⟩ : ∃ (a : Fin 1) (r : Fin 512) (k : Fin 1024), y = ix3 a r k := ⟨y 0, y 1, y 2, eq_ix3 y⟩
    have hA' := (funext fun k => (hA r k).symm : _ = fun k => A11 (ix2 r k))
    show _ = blockAt A0 H (iblk m c 4 t) (iblk m c 5 t) (iblk m c 6 t) (iblk m c 7 t) (iblk m c 8 t) (iblk m c 9 t)
      (iblk m c 10 t) (iblk m c 11 t) C r k
    unfold blockAt
    rw [hA']
    pointwise [k0_pay1, k0_pay139, k0_pay138, k0_pay137, ple, rms, sigm, dot, zero_sub]

end Cert.Proof.Mid

end
-- ==== Proof.MidCarry.lean ====
/- The rows one grid point of the first channel mixer leaves for the next one, read at an index. -/
module

public import proofs.«01_k».proof.Proof.MidBlock
public import Idealize.ShloMosaic.Lib.Pipeline.ValueKit
public import Idealize.ShloMosaic.Lib.Pipeline.ReadBack

@[expose] public section

set_option maxRecDepth 16384

noncomputable section

namespace Cert.Proof.Mid

open Idealize.ShloMosaic Idealize.ShloMosaic.TcCoe Idealize.SL.Sem
open Cert.MidIdeal Cert.MidIdeal.Gen Cert.Proof.Math Cert.Proof.Ffn

variable (m : (ℓ : Loc nD τ sig) → Buf (Elt Ideal) ℓ)

set_option maxHeartbeats 8000000 in
/-- The rows a grid point leaves for the next are the last 8 rows of its projection. -/
theorem carry_apply (c : Dev nD) (t : Fin cfg0.N) (a : Fin 8) (q : Fin 5632) :
    (outsAt0 m c t.val t.isLt).2 (ix2 a q) = dot (fun k => k0_pay3 (F := Ideal) (iblk m c 0 t) (iblk m c 1 t) (iblk m c 2 t)
      (iblk m c 3 t) (ix2 ⟨504 + a.val, by omega⟩ k)) (fun k => (iblk m c 4 t : FVec Ideal S1024x5632 .bf16) (ix2 k q)) := by
  by_cases hc : t.val % 8 = 0
  all_goals first | rw [Gen.outsAt0_A m c t hc] | rw [Gen.outsAt0_B m c t hc]
  all_goals
    frame_open
    simp (disch := decide) only [↓ shift_read, ↓ View.readCov_skip, ↓ View.readCov_cons_toLoadRect, ↓ View.readCov_fill,
      read_unread_whole]
    frame_out
    simp only [k0_pay6]
    generalize k0_pay3 (F := Ideal) (iblk m c 0 t) (iblk m c 1 t) (iblk m c 2 t) (iblk m c 3 t) = H
    have core := carry_eq H (iblk m c 4 t)
    try (rw [canon_dropLast _ _ (View.cover_of_tiled_head _ _ _ (by rfl) _)]; simp only [List.dropLast_cons₂, List.dropLast_singleton])
    canon_tiles x h
  all_goals idx_vars x
  all_goals first
    | refine Eq.trans ?_ (core x0 _ x1 _ _ (by decide) h0 h1)
    | refine Eq.trans ?_ (core x0 _ x1 _ 0 (by decide) h0 (h1.trans (Nat.zero_add _).symm))
  all_goals
    open_payloads
    pointwise [dot]

end Cert.Proof.Mid

end
-- ==== Proof.FfnLayer.lean ====
/- The first layer of a stack of arrays. -/
module

public import Idealize.ShloMosaic.Lib.Claim
public import Idealize.ShloMosaic.Lib.Pointwise

@[expose] public section

noncomputable section

namespace Cert.Proof.Ffn

open Idealize.ShloMosaic

/-- The first vector of a stack. -/
def vec0 (L : ℕ) {a : ℕ} (x : FVec Ideal ⟨2, ![L + 1, a]⟩ .f32) : FVec Ideal ⟨1, ![a]⟩ .f32 := fun i => x (ix2 0 (i 0))

/-- The first matrix of a stack. -/
def mat0 (L : ℕ) {a b : ℕ} (x : FVec Ideal ⟨3, ![L + 1, a, b]⟩ .f32) : FVec Ideal ⟨2, ![a, b]⟩ .f32 :=
  fun i => x (ix3 0 (i 0) (i 1))

/-- The first cube of a stack. -/
def cube0 (L : ℕ) {a b d : ℕ} (x : FVec Ideal ⟨4, ![L + 1, a, b, d]⟩ .f32) : FVec Ideal ⟨3, ![a, b, d]⟩ .f32 :=
  fun i => x (ix4 0 (i 0) (i 1) (i 2))

end Cert.Proof.Ffn

end
-- ==== Proof.MidArray.lean ====
/- The array the first channel mixer leaves, as one function of its arguments. -/
module

public import proofs.«01_k».proof.Proof.MidCarry
public import proofs.«01_k».proof.Proof.FfnSpec
public import proofs.«01_k».proof.Proof.FfnLayer
public import Idealize.ShloMosaic.Lib.Claim

@[expose] public section

set_option maxRecDepth 16384

noncomputable section

namespace Cert.Proof.Mid

open Idealize.ShloMosaic Idealize.ShloMosaic.TcCoe Idealize.SL.Sem
open Cert.MidIdeal Cert.MidIdeal.Gen Cert.Proof.Math Cert.Proof.Ffn

variable (m : (ℓ : Loc nD τ sig) → Buf (Elt Ideal) ℓ)

/-- The layer's weights, each the first of its stack; and its embedding. -/
abbrev A2 (c : Dev nD) : FVec Ideal ⟨2, ![1024, 1024]⟩ .f32 := mat0 0 (m ((c : Thread nD τ).loc main_arg2))
abbrev A3 (c : Dev nD) : FVec Ideal ⟨1, ![1024]⟩ .f32 := vec0 1 (m ((c : Thread nD τ).loc main_arg3))
abbrev A4 (c : Dev nD) : FVec Ideal ⟨2, ![1024, 5632]⟩ .f32 := mat0 1 (m ((c : Thread nD τ).loc main_arg4))
abbrev A5 (c : Dev nD) : FVec Ideal ⟨2, ![3, 5632]⟩ .f32 := mat0 1 (m ((c : Thread nD τ).loc main_arg5))
abbrev A6 (c : Dev nD) : FVec Ideal ⟨1, ![5632]⟩ .f32 := vec0 1 (m ((c : Thread nD τ).loc main_arg6))
abbrev A7 (c : Dev nD) : FVec Ideal ⟨2, ![2816, 1024]⟩ .f32 := mat0 1 (m ((c : Thread nD τ).loc main_arg7))
abbrev A8 (c : Dev nD) : FVec Ideal ⟨1, ![1024]⟩ .f32 := vec0 1 (m ((c : Thread nD τ).loc main_arg8))
abbrev A9 (c : Dev nD) : FVec Ideal ⟨2, ![1024, 1024]⟩ .f32 := mat0 1 (m ((c : Thread nD τ).loc main_arg9))
abbrev A10 (c : Dev nD) : FVec Ideal ⟨3, ![16, 4096, 256]⟩ .f32 := cube0 1 (m ((c : Thread nD τ).loc main_arg10))
abbrev A11 (c : Dev nD) : FVec Ideal ⟨2, ![256, 1024]⟩ .f32 := mat0 1 (m ((c : Thread nD τ).loc main_arg11))

theorem idx : ∀ t : Fin cfg0.N, win0_0.index t = ![t.val / 8, t.val % 8, 0] ∧ win0_1.index t = ![t.val / 8, t.val % 8, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 8, t.val % 8, 0] ∧ win0_11.index t = ![0, 0] ∧ win0_12.index t = ![0, 0]
    ∧ win0_13.index t = ![t.val / 8, t.val % 8, 0] :=
  (by decide +kernel : ∀ t : Fin grid0.N, _)

theorem t_lt (t : Fin cfg0.N) : t.val < 128 := t.isLt

/-- The block the kernel reads, read at a row and column of it, is the array read at the block's place. -/
theorem read0 (c : Dev nD) (t : Fin cfg0.N) (r : Fin 512) (k : Fin 1024) :
    iblk m c 0 t (ix3 0 r k) = m ((c : Thread nD τ).loc main_arg0)
      (ix3 ⟨t.val / 8, by have := t_lt t; omega⟩ ⟨512 * (t.val % 8) + r.val, by omega⟩ k) := by
  blk_ext [iblk, V, idx t]
theorem read1 (c : Dev nD) (t : Fin cfg0.N) (r : Fin 512) (k : Fin 1024) :
    iblk m c 1 t (ix3 0 r k) = m ((c : Thread nD τ).loc main_arg1)
      (ix3 ⟨t.val / 8, by have := t_lt t; omega⟩ ⟨512 * (t.val % 8) + r.val, by omega⟩ k) := by
  blk_ext [iblk, V, idx t]
theorem read2 (c : Dev nD) (t : Fin cfg0.N) (k : Fin 1024) (j : Fin 1024) :
    iblk m c 2 t (ix2 k j) = A2 m c (ix2 k j) := by
  show _ = m ((c : Thread nD τ).loc main_arg2) (ix3 0 k j)
  blk_simp [iblk, idx t]
  entry_read
  pointwise
  blk_point [iblk, V, idx t]
theorem read3 (c : Dev nD) (t : Fin cfg0.N) (k : Fin 1024) :
    iblk m c 3 t (ix2 0 k) = A3 m c (ix1 k) := by
  show _ = m ((c : Thread nD τ).loc main_arg3) (ix2 0 k)
  blk_simp [iblk, idx t]
  entry_read
  pointwise
  blk_point [iblk, V, idx t]
theorem read4 (c : Dev nD) (t : Fin cfg0.N) (k : Fin 1024) (j : Fin 5632) :
    iblk m c 4 t (ix2 k j) = A4 m c (ix2 k j) := by
  show _ = m ((c : Thread nD τ).loc main_arg4) (ix3 0 k j)
  blk_simp [iblk, idx t]
  entry_read
  pointwise
  blk_point [iblk, V, idx t]
theorem read5 (c : Dev nD) (t : Fin cfg0.N) (k : Fin 3) (j : Fin 5632) :
    iblk m c 5 t (ix2 k j) = A5 m c (ix2 k j) := by
  show _ = m ((c : Thread nD τ).loc main_arg5) (ix3 0 k j)
  blk_simp [iblk, idx t]
  entry_read
  pointwise
  blk_point [iblk, V, idx t]
theorem read6 (c : Dev nD) (t : Fin cfg0.N) (k : Fin 5632) :
    iblk m c 6 t (ix2 0 k) = A6 m c (ix1 k) := by
  show _ = m ((c : Thread nD τ).loc main_arg6) (ix2 0 k)
  blk_simp [iblk, idx t]
  entry_read
  pointwise
  blk_point [iblk, V, idx t]
theorem read7 (c : Dev nD) (t : Fin cfg0.N) (k : Fin 2816) (j : Fin 1024) :
    iblk m c 7 t (ix2 k j) = A7 m c (ix2 k j) := by
  show _ = m ((c : Thread nD τ).loc main_arg7) (ix3 0 k j)
  blk_simp [iblk, idx t]
  entry_read
  pointwise
  blk_point [iblk, V, idx t]
theorem read8 (c : Dev nD) (t : Fin cfg0.N) (k : Fin 1024) :
    iblk m c 8 t (ix2 0 k) = A8 m c (ix1 k) := by
  show _ = m ((c : Thread nD τ).loc main_arg8) (ix2 0 k)
  blk_simp [iblk, idx t]
  entry_read
  pointwise
  blk_point [iblk, V, idx t]
theorem read9 (c : Dev nD) (t : Fin cfg0.N) (k : Fin 1024) (j : Fin 1024) :
    iblk m c 9 t (ix2 k j) = A9 m c (ix2 k j) := by
  show _ = m ((c : Thread nD τ).loc main_arg9) (ix3 0 k j)
  blk_simp [iblk, idx t]
  entry_read
  pointwise
  blk_point [iblk, V, idx t]
theorem read10 (c : Dev nD) (t : Fin cfg0.N) (r : Fin 512) (k : Fin 256) :
    iblk m c 10 t (ix3 0 r k) = A10 m c
      (ix3 ⟨t.val / 8, by have := t_lt t; omega⟩ ⟨512 * (t.val % 8) + r.val, by omega⟩ k) := by
  show _ = m ((c : Thread nD τ).loc main_arg10)
    (ix4 0 ⟨t.val / 8, by have := t_lt t; omega⟩ ⟨512 * (t.val % 8) + r.val, by omega⟩ k)
  blk_simp [iblk, idx t]
  entry_read
  pointwise
  blk_point [iblk, V, idx t]
theorem read11 (c : Dev nD) (t : Fin cfg0.N) (k : Fin 256) (j : Fin 1024) :
    iblk m c 11 t (ix2 k j) = A11 m c (ix2 k j) := by
  show _ = m ((c : Thread nD τ).loc main_arg11) (ix3 0 k j)
  blk_simp [iblk, idx t]
  entry_read
  pointwise
  blk_point [iblk, V, idx t]
theorem read12 (c : Dev nD) (t : Fin cfg0.N) (k : Fin 1024) :
    iblk m c 12 t (ix2 0 k) = m ((c : Thread nD τ).loc main_arg12) (ix1 k) := by
  blk_simp [iblk, idx t]
  entry_read
  pointwise
  blk_point [iblk, V, idx t]

/-- The batch of a grid point. -/
def bOf (t : Fin cfg0.N) : Fin 16 := ⟨t.val / 8, by have := t_lt t; omega⟩

/-- The place in the sequence of row `r` of a grid point's block. -/
def sOf (t : Fin cfg0.N) (r : Fin 512) : Fin 4096 := ⟨512 * (t.val % 8) + r.val, by omega⟩

theorem h1_eq (c : Dev nD) (t : Fin cfg0.N) (r : Fin 512) (k : Fin 1024) :
    k0_pay4 (F := Ideal) (iblk m c 0 t) (iblk m c 1 t) (iblk m c 2 t) (ix2 r k)
      = h1At (m ((c : Thread nD τ).loc main_arg0)) (m ((c : Thread nD τ).loc main_arg1))
          (A2 m c) (bOf t) (sOf t r) k := by
  rw [pay4_apply]
  unfold h1At dot bOf sOf
  simp only [read0, read1, read2]

theorem hn_eq (c : Dev nD) (t : Fin cfg0.N) (r : Fin 512) (k : Fin 1024) :
    k0_pay3 (F := Ideal) (iblk m c 0 t) (iblk m c 1 t) (iblk m c 2 t) (iblk m c 3 t) (ix2 r k)
      = hnAt (m ((c : Thread nD τ).loc main_arg0)) (m ((c : Thread nD τ).loc main_arg1))
          (A2 m c) (A3 m c) (bOf t) (sOf t r) k := by
  rw [pay3_apply]
  unfold hnAt h1At dot bOf sOf
  simp only [read0, read1, read2, read3]

theorem y_eq (c : Dev nD) (t : Fin cfg0.N) (r : Fin 512) (q : Fin 5632) :
    dot (fun k => k0_pay3 (F := Ideal) (iblk m c 0 t) (iblk m c 1 t) (iblk m c 2 t) (iblk m c 3 t) (ix2 r k))
        (fun k => (iblk m c 4 t : FVec Ideal S1024x5632 .bf16) (ix2 k q))
      = yAt (m ((c : Thread nD τ).loc main_arg0)) (m ((c : Thread nD τ).loc main_arg1))
          (A2 m c) (A3 m c)
          (A4 m c) (bOf t) q (sOf t r) := by
  unfold yAt
  simp only [hn_eq, read4]

/-- The carried rows are zero at the start of a sequence; -/
theorem carried_zero (c : Dev nD) (t : Fin cfg0.N) (h : t.val % 8 = 0) (a : Fin 8) (q : Fin 5632) :
    carried m c t (ix2 a q) = 0 := by
  unfold carried
  rw [if_pos h]
  exact pay5_apply a q

/-- elsewhere they are the last 8 rows of the tile before. -/
theorem carried_prev (c : Dev nD) (t : Fin cfg0.N) (h : t.val % 8 ≠ 0) (a : Fin 8) (q : Fin 5632) :
    carried m c t (ix2 a q) = yAt (m ((c : Thread nD τ).loc main_arg0)) (m ((c : Thread nD τ).loc main_arg1))
        (A2 m c) (A3 m c)
        (A4 m c) (bOf t) q
      ⟨512 * (t.val % 8 - 1) + (504 + a.val), by omega⟩ := by
  unfold carried
  rw [if_neg h]
  have ht : t.val - 1 < cfg0.N := Nat.lt_of_le_of_lt (Nat.sub_le _ _) t.isLt
  refine (carry_apply m c ⟨t.val - 1, ht⟩ a q).trans ((y_eq m c ⟨t.val - 1, ht⟩ _ q).trans ?_)
  refine congr (congrArg (yAt (m ((c : Thread nD τ).loc main_arg0)) (m ((c : Thread nD τ).loc main_arg1))
      (A2 m c) (A3 m c)
          (A4 m c) · q) (Fin.ext ?_)) (Fin.ext ?_)
  · show (t.val - 1) / 8 = t.val / 8
    omega
  · show 512 * ((t.val - 1) % 8) + (504 + a.val) = 512 * (t.val % 8 - 1) + (504 + a.val)
    omega

theorem conv_eq (c : Dev nD) (t : Fin cfg0.N) (r : Fin 512) (q : Fin 5632) :
    conv (k0_pay3 (F := Ideal) (iblk m c 0 t) (iblk m c 1 t) (iblk m c 2 t) (iblk m c 3 t)) (iblk m c 4 t) (iblk m c 5 t)
        (iblk m c 6 t) (carried m c t) r q
      = convAt (m ((c : Thread nD τ).loc main_arg0)) (m ((c : Thread nD τ).loc main_arg1))
          (A2 m c) (A3 m c)
          (A4 m c) (A5 m c)
          (A6 m c) (bOf t) (sOf t r) q := by
  unfold conv convB convAt
  have T := fun o ho => tap_eq o ho (fun a => carried m c t (ix2 a q))
    (fun s => dot (fun k => k0_pay3 (F := Ideal) (iblk m c 0 t) (iblk m c 1 t) (iblk m c 2 t) (iblk m c 3 t) (ix2 s k))
      (fun k => (iblk m c 4 t : FVec Ideal S1024x5632 .bf16) (ix2 k q)))
    (yAt (m ((c : Thread nD τ).loc main_arg0)) (m ((c : Thread nD τ).loc main_arg1))
        (A2 m c) (A3 m c)
        (A4 m c) (bOf t) q) (t.val % 8)
    (Nat.mod_lt _ (by decide)) (fun r => y_eq m c t r q) (fun h a => carried_zero m c t h a q)
    (fun h a => carried_prev m c t h a q) r
  rw [T, T]
  simp only [y_eq, read5, read6]
  rfl

/-- The block function over the blocks of a grid point is the array function at the block's rows. -/
theorem block_eq (c : Dev nD) (t : Fin cfg0.N) (r : Fin 512) (k : Fin 1024) :
    blockAt (k0_pay4 (F := Ideal) (iblk m c 0 t) (iblk m c 1 t) (iblk m c 2 t))
      (k0_pay3 (F := Ideal) (iblk m c 0 t) (iblk m c 1 t) (iblk m c 2 t) (iblk m c 3 t)) (iblk m c 4 t) (iblk m c 5 t)
      (iblk m c 6 t) (iblk m c 7 t) (iblk m c 8 t) (iblk m c 9 t) (iblk m c 10 t) (iblk m c 11 t)
      (carried m c t) r k
      = h3At (m ((c : Thread nD τ).loc main_arg0)) (m ((c : Thread nD τ).loc main_arg1))
          (A2 m c) (A3 m c)
          (A4 m c) (A5 m c)
          (A6 m c) (A7 m c)
          (A8 m c) (A9 m c)
          (A10 m c) (A11 m c)

        (bOf t) (sOf t r) k := by
  unfold blockAt h3At h2At hid hidAt
  have e : (fun k => k0_pay4 (F := Ideal) (iblk m c 0 t) (iblk m c 1 t) (iblk m c 2 t) (ix2 r k))
      = h1At (m ((c : Thread nD τ).loc main_arg0)) (m ((c : Thread nD τ).loc main_arg1))
          (A2 m c) (bOf t) (sOf t r) := funext fun k => h1_eq m c t r k
  have e10 : ∀ j, iblk m c 10 t (ix3 0 r j) = A10 m c (ix3 (bOf t) (sOf t r) j) := read10 m c t r
  simp only [e, conv_eq, read7, read8, read9, e10, read11]

/-- The result array after the run. -/
theorem final (c : Dev nD) : (dats m 0 c).arrAt 13 (cfgs 0).N = fun i : S16x4096x1024.Idx =>
    h3At (m ((c : Thread nD τ).loc main_arg0)) (m ((c : Thread nD τ).loc main_arg1))
        (A2 m c) (A3 m c)
        (A4 m c) (A5 m c)
        (A6 m c) (A7 m c)
        (A8 m c) (A9 m c)
        (A10 m c) (A11 m c)

      (i 0) (i 1) (i 2) := by
  refine (dats m 0 c).arrAt_eq_of_covers 13 _ (by decide +kernel) fun t _ y => ?_
  blk_simp
  rw [after0_13]
  refine (outs_apply m c t y).trans ?_
  refine (block_eq m c t (y 1) (y 2)).trans ?_
  refine congr (congr (congrArg _ (Fin.ext ?_)) (Fin.ext ?_)) (Fin.ext ?_) <;> blk_simp [idx t]
  · rfl
  · show 512 * (t.val % 8) + (y 1).val = t.val % 8 * 512 + (y 1).val
    omega

end Cert.Proof.Mid

end
-- ==== Proof.MidRef.lean ====
/- The reference of the first channel mixer, read at an index. -/
module

public import proofs.«01_k».proof.Proof.FfnSpec
public import proofs.«01_k».proof.Proof.FfnLayer
public import proofs.«01_k».proof.Proof.Gen.MidRefIdeal.Read
public import Idealize.ShloMosaic.Lib.Pointwise

@[expose] public section

set_option maxRecDepth 16384

noncomputable section

namespace Cert.Proof.MidRef

open Idealize.ShloMosaic Idealize.ShloMosaic.TcCoe Idealize.SL.Sem
open Cert.MidRefIdeal Cert.MidRefIdeal.Read Cert.Proof.Math Cert.Proof.Ffn

variable (x0 : FVec Ideal S16x4096x1024 .f32) (x1 : FVec Ideal S16x4096x1024 .bf16) (x2 : FVec Ideal S1x1024x1024 .f32)
  (x3 : FVec Ideal S2x1024 .f32) (x4 : FVec Ideal S2x1024x5632 .f32) (x5 : FVec Ideal S2x3x5632 .f32)
  (x6 : FVec Ideal S2x5632 .f32) (x7 : FVec Ideal S2x2816x1024 .f32) (x8 : FVec Ideal S2x1024 .f32)
  (x9 : FVec Ideal S2x1024x1024 .f32) (x10 : FVec Ideal S2x16x4096x256 .f32) (x11 : FVec Ideal S2x256x1024 .f32)

theorem h1_apply (b : Fin 16) (s : Fin 4096) (k : Fin 1024) :
    val_main_v3 (F := Ideal) x0 x1 x2 (ix3 b s k) = h1At x0 x1 (mat0 0 x2) b s k := by
  pointwise [val_main_v3, val_main_v2, val_main_v1, val_main_v0, h1At, dot, mat0]

theorem hn_apply (b : Fin 16) (s : Fin 4096) (k : Fin 1024) :
    val_main_v18 (F := Ideal) x0 x1 x2 x3 (ix3 b s k) = hnAt x0 x1 (mat0 0 x2) (vec0 1 x3) b s k := by
  pointwise [val_main_v18, val_main_v17, val_main_v16, val_main_v5, val_main_v4, val_main_v15, val_main_v14, val_main_v13, val_main_v12,
    val_main_v11, val_main_v10, val_main_v9, val_main_v8, val_main_v7, val_main_v6, val_main_cst, val_main_cst_0,
    val_main_cst_1, hnAt, rms, h1_apply, vec0]

theorem y_apply (b : Fin 16) (s : Fin 4096) (q : Fin 5632) :
    val_main_v21 (F := Ideal) x0 x1 x2 x3 x4 (ix3 b s q) = yAt x0 x1 (mat0 0 x2) (vec0 1 x3) (mat0 1 x4) b q s := by
  pointwise [val_main_v21, val_main_v20, val_main_v19, yAt, dot, hn_apply, mat0]

theorem pad_apply (b : Fin 16) (s : Fin 4098) (q : Fin 5632) :
    val_main_v25 (F := Ideal) x0 x1 x2 x3 x4 (ix3 b s q)
      = if h : 2 ≤ s.val then yAt x0 x1 (mat0 0 x2) (vec0 1 x3) (mat0 1 x4) b q ⟨s.val - 2, by omega⟩ else 0 := by
  pointwise [val_main_v25, val_main_call0_v0, val_main_c, y_apply]
  have z : FloatOps.sitofp (F := Ideal) .f32 (0#32 : BitVec 32) = (0 : EReal) := by
    show (((0#32 : BitVec 32).toInt : ℝ) : EReal) = 0
    simp
  by_cases h : 2 ≤ s.val
  · rw [dif_pos ⟨h, by omega⟩, dif_pos h]
  · rw [dif_neg (fun h' => h h'.1), dif_neg h]
    exact z

theorem shift0 (b : Fin 16) (s : Fin 4096) (q : Fin 5632) :
    val_main_v26 (F := Ideal) x0 x1 x2 x3 x4 (ix3 b s q) = before 2 (yAt x0 x1 (mat0 0 x2) (vec0 1 x3) (mat0 1 x4) b q) s := by
  pointwise [val_main_v26, pad_apply, before]
  by_cases h : 2 ≤ s.val
  · rw [dif_pos h, if_pos h]
  · rw [dif_neg h, if_neg h]

theorem shift1 (b : Fin 16) (s : Fin 4096) (q : Fin 5632) :
    val_main_v34 (F := Ideal) x0 x1 x2 x3 x4 (ix3 b s q) = before 1 (yAt x0 x1 (mat0 0 x2) (vec0 1 x3) (mat0 1 x4) b q) s := by
  pointwise [val_main_v34, pad_apply, before]
  by_cases h : 1 ≤ s.val
  · rw [dif_pos (by omega), if_pos h]
    exact congrArg _ (Fin.ext (by show 1 + s.val - 2 = s.val - 1; omega))
  · rw [dif_neg (by omega), if_neg h]

theorem shift2 (b : Fin 16) (s : Fin 4096) (q : Fin 5632) :
    val_main_v41 (F := Ideal) x0 x1 x2 x3 x4 (ix3 b s q) = yAt x0 x1 (mat0 0 x2) (vec0 1 x3) (mat0 1 x4) b q s := by
  pointwise [val_main_v41, pad_apply]

/-- Four summands in the kernel's order. -/
theorem add_rows (a b c d : EReal) : a + b + c + d = c + d + a + b := by
  rw [add_assoc (a + b), add_comm (a + b), ← add_assoc]

theorem conv_apply (b : Fin 16) (s : Fin 4096) (q : Fin 5632) :
    val_main_v52 (F := Ideal) x0 x1 x2 x3 x4 x5 x6 (ix3 b s q) = convAt x0 x1 (mat0 0 x2) (vec0 1 x3) (mat0 1 x4) (mat0 1 x5) (vec0 1 x6) b s q := by
  pointwise [val_main_v52, val_main_v51, val_main_v50, val_main_v49, val_main_v48, val_main_v47, val_main_v46, val_main_v45, val_main_v44,
    val_main_v43, val_main_v42, val_main_v24, val_main_v23, val_main_v22, val_main_v40, val_main_v39, val_main_v38, val_main_v37, val_main_v36, val_main_v35, val_main_v24, val_main_v23, val_main_v22,
    val_main_v33, val_main_v32, val_main_cst_2, val_main_v31, val_main_v30, val_main_v29, val_main_v28, val_main_v27, val_main_v24, val_main_v23, val_main_v22,
    shift0, shift1, shift2, convAt, conv3, mat0, vec0]
  exact add_rows _ _ _ _

theorem hid_apply (b : Fin 16) (s : Fin 4096) (j : Fin 2816) :
    val_main_v56 (F := Ideal) x0 x1 x2 x3 x4 x5 x6 (ix3 b s j) = hidAt x0 x1 (mat0 0 x2) (vec0 1 x3) (mat0 1 x4) (mat0 1 x5) (vec0 1 x6) b s j := by
  pointwise [val_main_v56, val_main_v55, val_main_call1_v5, val_main_call1_v4, val_main_call1_v3, val_main_call1_v2,
    val_main_call1_v1, val_main_call1_v0, val_main_call1_cst, val_main_call1_cst_0, val_main_v54, val_main_v53,
    conv_apply, hidAt, glu, sigm]

theorem h2_apply (b : Fin 16) (s : Fin 4096) (k : Fin 1024) :
    val_main_v60 (F := Ideal) x0 x1 x2 x3 x4 x5 x6 x7 (ix3 b s k) = h2At x0 x1 (mat0 0 x2) (vec0 1 x3) (mat0 1 x4) (mat0 1 x5) (vec0 1 x6) (mat0 1 x7) b s k := by
  pointwise [val_main_v60, val_main_v59, val_main_v58, val_main_v57, h1_apply, hid_apply, h2At, ffn, dot, mat0]

theorem gate_apply (b : Fin 16) (s : Fin 4096) (k : Fin 1024) :
    val_main_v75 (F := Ideal) x0 x1 x2 x3 x4 x5 x6 x7 x8 (ix3 b s k)
      = rms 0x44800000#32 (h2At x0 x1 (mat0 0 x2) (vec0 1 x3) (mat0 1 x4) (mat0 1 x5) (vec0 1 x6) (mat0 1 x7) b s) (fun k => vec0 1 x8 (ix1 k)) k := by
  pointwise [val_main_v75, val_main_v74, val_main_v73, val_main_v62, val_main_v61, val_main_v72, val_main_v71, val_main_v70, val_main_v69,
    val_main_v68, val_main_v67, val_main_v66, val_main_v65, val_main_v64, val_main_v63, val_main_cst_3, val_main_cst_4,
    val_main_cst_5, rms, h2_apply, vec0]

theorem h3_apply (b : Fin 16) (s : Fin 4096) (k : Fin 1024) :
    val_main_v91 (F := Ideal) x0 x1 x2 x3 x4 x5 x6 x7 x8 x9 x10 x11 (ix3 b s k)
      = h3At x0 x1 (mat0 0 x2) (vec0 1 x3) (mat0 1 x4) (mat0 1 x5) (vec0 1 x6) (mat0 1 x7) (vec0 1 x8) (mat0 1 x9) (cube0 1 x10) (mat0 1 x11) b s k := by
  pointwise [val_main_v91, val_main_v90, val_main_v89, val_main_v88, val_main_v87, val_main_v86, val_main_v85, val_main_v84, val_main_v83, val_main_v82, val_main_v81,
    val_main_v80, val_main_v79, val_main_v78, val_main_v77, val_main_v76, val_main_cst_6, val_main_cst_7, gate_apply, h2_apply, h3At, ple, sigm, dot,
    mat0, cube0]

end Cert.Proof.MidRef

end
-- ==== Proof.MidClaims.lean ====
/- The claim about the first channel mixer: the two runs end with the same array. -/
module

public import proofs.«01_k».proof.Defs
public import proofs.«01_k».proof.Proof.MidArray
public import proofs.«01_k».proof.Proof.MidRef
public import proofs.«01_k».proof.Proof.Gen.MidRefIdeal.Run

@[expose] public section

set_option maxRecDepth 16384

noncomputable section

namespace Cert.Proof.MidClaims

open Idealize.ShloMosaic Idealize.ShloMosaic.TcCoe Idealize.SL.Sem

/-- From memories that agree on the arguments the kernel's result array and the reference's are the same function. -/
theorem algebraic : Cert.algebraic_MidIdeal_MidRefIdeal := by
  intro m ρ m' ρ' _ hagree
  refine ⟨_, Cert.MidIdeal.Value.run_blocks (F := Ideal) m ρ, ?_⟩
  refine (θ_run Cert.MidRefIdeal.defs _ _).mono (fun _ h c => ⟨(h c).1.trans ?_, (h c).2⟩)
    (Cert.MidRefIdeal.Value.run (F := Ideal) m' ρ')
  obtain ⟨h0, h1, h2, h3, h4, h5, h6, h7, h8, h9, h10, h11, _⟩ := hagree c
  rw [Cert.MidRefIdeal.Read.val_main_v91_eq]
  show Cert.MidRefIdeal.Read.val_main_v91 (F := Ideal)
    (m' (c.tc.loc Cert.MidRefIdeal.main_arg0)) (m' (c.tc.loc Cert.MidRefIdeal.main_arg1))
    (m' (c.tc.loc Cert.MidRefIdeal.main_arg2)) (m' (c.tc.loc Cert.MidRefIdeal.main_arg3))
    (m' (c.tc.loc Cert.MidRefIdeal.main_arg4)) (m' (c.tc.loc Cert.MidRefIdeal.main_arg5))
    (m' (c.tc.loc Cert.MidRefIdeal.main_arg6)) (m' (c.tc.loc Cert.MidRefIdeal.main_arg7))
    (m' (c.tc.loc Cert.MidRefIdeal.main_arg8)) (m' (c.tc.loc Cert.MidRefIdeal.main_arg9))
    (m' (c.tc.loc Cert.MidRefIdeal.main_arg10)) (m' (c.tc.loc Cert.MidRefIdeal.main_arg11)) = _
  rw [h0, h1, h2, h3, h4, h5, h6, h7, h8, h9, h10, h11]
  refine Eq.trans (funext fun i => ?_) (Cert.Proof.Mid.final m c).symm
  rw [eq_ix3 i]
  exact Cert.Proof.MidRef.h3_apply _ _ _ _ _ _ _ _ _ _ _ _ _ _ _

end Cert.Proof.MidClaims

end
-- ==== Proof.GinMath.lean ====
/- The functions of the delta rule's projections at one row, over the extended reals, free of any program. -/
module

public import proofs.«01_k».proof.Proof.FfnBlock

@[expose] public section

noncomputable section

namespace Cert.Proof.Gin

open Idealize.ShloMosaic Cert.Proof.Math

/-- The causal convolution of width 4 at one place: the value there, those 1, 2 and 3 rows before, and the weights. -/
def conv4 (y0 y1 y2 y3 w0 w1 w2 w3 : EReal) : EReal := y0 * w3 + y3 * w0 + y2 * w1 + y1 * w2

/-- A value times its sigmoid. -/
def silu (a : EReal) : EReal := a * sigm a

/-- The softplus: the logarithm of one plus the exponential. -/
def softplus (x : EReal) : EReal := max x 0 + Ideal.log1p (Ideal.exp (-(max (x - 0) (-(x - 0)))))

/-- The row `f` divided by its length, at `j`. -/
def unit {n : ℕ} (f : Fin n → EReal) (j : Fin n) : EReal :=
  f j * Ideal.rsqrt ((∑ k, f k * f k) + Ideal.ofBits .f32 0x358637BD#32)

/-- The convolution of a column `y` of 512 rows, the 8 rows before them being `C`, at row `r`. -/
def convB4 (C : Fin 8 → EReal) (y : Fin 512 → EReal) (w : Fin 4 → EReal) (r : Fin 512) : EReal :=
  conv4 (y r) (tap 7 (by decide) C y r) (tap 6 (by decide) C y r) (tap 5 (by decide) C y r) (w 0) (w 1) (w 2) (w 3)

/-- Column `q` of the convolved projection at row `r` after the activation: `H` the normed rows, `C` the 8 projected rows
    before them. -/
def act (H : FVec Ideal ⟨2, ![512, 1024]⟩ .bf16) (w : FVec Ideal ⟨2, ![1024, 4096]⟩ .bf16)
    (cw : FVec Ideal ⟨2, ![4, 3072]⟩ .f32) (C : FVec Ideal ⟨2, ![8, 3072]⟩ .f32) (r : Fin 512) (q : Fin 3072) : EReal :=
  silu (convB4 (fun a => C (ix2 a q)) (fun s => dot (fun k => H (ix2 s k)) (fun k => w (ix2 k ⟨q.val, by omega⟩)))
    (fun a => cw (ix2 a q)) r)

/-- The head of column `q` of 1024, made of unit length: the columns `o + q` of `f`. -/
def headAt (f : Fin 3072 → EReal) (o : ℕ) (ho : o + 1024 ≤ 3072) (q : Fin 1024) : EReal :=
  unit (fun d : Fin 128 => f ⟨o + (128 * (q.val / 128) + d.val), by omega⟩) ⟨q.val % 128, by omega⟩

/-- One piece of 128 columns. -/
theorem headAt_eq (f : Fin 3072 → EReal) (o : ℕ) (ho : o + 1024 ≤ 3072) (q : Fin 1024) (j : Fin 128) (a b : ℕ)
    (hb : b + 128 ≤ 3072) (ha : a % 128 = 0) (hab : b = o + a) (hq : q.val = a + j.val) :
    unit (fun d : Fin 128 => f ⟨b + d.val, by omega⟩) j = headAt f o ho q := by
  unfold headAt
  have e : j = ⟨q.val % 128, by omega⟩ := Fin.ext (by show j.val = q.val % 128; omega)
  have e' : (fun d : Fin 128 => f ⟨b + d.val, by omega⟩)
      = fun d : Fin 128 => f ⟨o + (128 * (q.val / 128) + d.val), by omega⟩ := funext fun d =>
    congrArg f (Fin.ext (by show b + d.val = o + (128 * (q.val / 128) + d.val); omega))
  rw [e', ← e]

end Cert.Proof.Gin

end
-- ==== Proof.GinBlock.lean ====
/- What one grid point of the delta rule's projections reads: the normed rows and the carried ones. -/
module

public import proofs.«01_k».proof.Proof.GinMath
public import proofs.«01_k».proof.Proof.Gen.GinIdeal.Value

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

theorem named_eq : (Named.named κ "isqrt128" 0x3DB504F3#32 : Ideal .f32) = (((Real.sqrt 128)⁻¹ : ℝ) : EReal) :=
  IdealRules.named_const.ideal_named_scalar _ _ _ _ rfl

/-- The normed rows. -/
theorem pay2_apply (x : FVec Ideal S1x512x1024 .f32) (g : FVec Ideal S1x1024 .f32) (r : Fin 512) (k : Fin 1024) :
    k0_pay2 (F := Ideal) x g (ix2 r k) = rms 0x44800000#32 (fun k => x (ix3 0 r k)) (fun k => g (ix2 0 k)) k := by
  pointwise [k0_pay2, rms]

/-- The rows carried into the first tile of a sequence are zero. -/
theorem pay10_apply (a : Fin 8) (q : Fin 3072) : k0_pay10 (F := Ideal) (ix2 a q) = 0 := by
  pointwise [k0_pay10]

/-- The carried rows a grid point starts from. -/
def carried (c : Dev nD) (t : Fin cfg0.N) : FVec Ideal S8x3072 .f32 :=
  if t.val % 8 = 0 then k0_pay10 (F := Ideal)
    else (outsAt0 m c (t.val - 1) (Nat.lt_of_le_of_lt (Nat.sub_le _ _) t.isLt)).2.2.2.2.2.2

end Cert.Proof.Gin

end
-- ==== Proof.GinQ.lean ====
/- The query columns a grid point leaves, read at an index. -/
module

public import proofs.«01_k».proof.Proof.GinBlock

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

set_option maxHeartbeats 8000000 in
/-- The query columns: each head of the activated projection made of unit length, over the square root of 128. -/
theorem q_apply (c : Dev nD) (t : Fin cfg0.N) (z : Fin 1) (r : Fin 512) (q : Fin 1024) :
    (outsAt0 m c t.val t.isLt).1 (ix3 z r q)
      = headAt (act (k0_pay2 (F := Ideal) (iblk m c 0 t) (iblk m c 1 t)) (iblk m c 2 t) (iblk m c 4 t) (carried m c t) r)
          0 (by decide) q * (((Real.sqrt 128)⁻¹ : ℝ) : EReal) := by
  unfold carried
  split <;> rename_i h
  all_goals first | rw [Gen.outsAt0_A m c t h] | rw [Gen.outsAt0_B m c t h]
  all_goals
    frame_open
    simp (disch := decide) only [↓ shift_read, ↓ View.readCov_skip, ↓ View.readCov_cons_toLoadRect, ↓ View.readCov_fill,
      read_unread_whole]
    frame_out
  all_goals first
    | have hC0 : ¬ t.val % 8 = 0 := h
      generalize (outsAt0 m c (t.val - 1) _).2.2.2.2.2.2 = X
      have hC : View.read (Elt Ideal) (View.whole cc0_scratch1) ((Memref.isWhole_whole cc0_scratch1).unread X) = X :=
        read_unread_whole _ _ _
      generalize View.read (Elt Ideal) (View.whole cc0_scratch1) _ = C at hC ⊢
      subst hC
    | generalize hC : k0_pay10 (F := Ideal) = C
      have hC0 : ∀ a b, C (ix2 a b) = 0 := fun a b => by rw [← hC]; exact pay10_apply a b
  all_goals
    generalize hH : k0_pay2 (F := Ideal) (iblk m c 0 t) (iblk m c 1 t) = H
    unfold k0_pay2 at hH
    dsimp only at hH
    try simp only [hH]
    clear hH
    have core := headAt_eq (act H (iblk m c 2 t) (iblk m c 4 t) C r) 0 (by decide) q
    canon_tiles x h
  all_goals idx_vars x
  all_goals
    obtain rfl : x1 = r := Fin.ext h1.symm
  all_goals first
    | refine Eq.trans ?_ (congrArg (· * (((Real.sqrt 128)⁻¹ : ℝ) : EReal)) (core x2 _ _ (by decide) (by decide) (Nat.zero_add _).symm h2))
    | refine Eq.trans ?_ (congrArg (· * (((Real.sqrt 128)⁻¹ : ℝ) : EReal)) (core x2 0 0 (by decide) (by decide) rfl (h2.trans (Nat.zero_add _).symm)))
  all_goals
    open_payloads
    first
    | (have hz : ∀ a b, C (ix2 a b) = 0 := hC0
       pointwise [unit, act, silu, sigm, convB4, conv4, tap, shift, dot, zero_sub, named_eq, hz])
    | pointwise [unit, act, silu, sigm, convB4, conv4, tap, shift, dot, zero_sub, named_eq]
    try simp only [← Nat.add_assoc, Nat.reduceAdd]

end Cert.Proof.Gin

end
-- ==== Proof.GinK.lean ====
/- The key columns a grid point leaves, read at an index. -/
module

public import proofs.«01_k».proof.Proof.GinBlock

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

set_option maxHeartbeats 8000000 in
/-- The key columns: each head of the activated projection made of unit length. -/
theorem k_apply (c : Dev nD) (t : Fin cfg0.N) (z : Fin 1) (r : Fin 512) (q : Fin 1024) :
    (outsAt0 m c t.val t.isLt).2.1 (ix3 z r q)
      = headAt (act (k0_pay2 (F := Ideal) (iblk m c 0 t) (iblk m c 1 t)) (iblk m c 2 t) (iblk m c 4 t) (carried m c t) r)
          1024 (by decide) q := by
  unfold carried
  split <;> rename_i h
  all_goals first | rw [Gen.outsAt0_A m c t h] | rw [Gen.outsAt0_B m c t h]
  all_goals
    frame_open
    simp (disch := decide) only [↓ shift_read, ↓ View.readCov_skip, ↓ View.readCov_cons_toLoadRect, ↓ View.readCov_fill,
      read_unread_whole]
    frame_out
  all_goals first
    | have hC0 : ¬ t.val % 8 = 0 := h
      generalize (outsAt0 m c (t.val - 1) _).2.2.2.2.2.2 = X
      have hC : View.read (Elt Ideal) (View.whole cc0_scratch1) ((Memref.isWhole_whole cc0_scratch1).unread X) = X :=
        read_unread_whole _ _ _
      generalize View.read (Elt Ideal) (View.whole cc0_scratch1) _ = C at hC ⊢
      subst hC
    | generalize hC : k0_pay10 (F := Ideal) = C
      have hC0 : ∀ a b, C (ix2 a b) = 0 := fun a b => by rw [← hC]; exact pay10_apply a b
  all_goals
    generalize hH : k0_pay2 (F := Ideal) (iblk m c 0 t) (iblk m c 1 t) = H
    unfold k0_pay2 at hH
    dsimp only at hH
    try simp only [hH]
    clear hH
    have core := headAt_eq (act H (iblk m c 2 t) (iblk m c 4 t) C r) 1024 (by decide) q
    canon_tiles x h
  all_goals idx_vars x
  all_goals
    obtain rfl : x1 = r := Fin.ext h1.symm
  all_goals first
    | refine Eq.trans ?_ (core x2 _ _ (by decide) (by decide) rfl h2)
    | refine Eq.trans ?_ (core x2 0 1024 (by decide) (by decide) rfl (h2.trans (Nat.zero_add _).symm))
  all_goals
    open_payloads
    first
    | (have hz : ∀ a b, C (ix2 a b) = 0 := hC0
       pointwise [unit, act, silu, sigm, convB4, conv4, tap, shift, dot, zero_sub, named_eq, hz])
    | pointwise [unit, act, silu, sigm, convB4, conv4, tap, shift, dot, zero_sub, named_eq]
    try simp only [← Nat.add_assoc, Nat.reduceAdd]

end Cert.Proof.Gin

end
-- ==== Proof.GinV.lean ====
/- The value columns a grid point leaves, read at an index. -/
module

public import proofs.«01_k».proof.Proof.GinBlock

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

set_option maxHeartbeats 8000000 in
/-- The value columns: the activated projection. -/
theorem v_apply (c : Dev nD) (t : Fin cfg0.N) (z : Fin 1) (r : Fin 512) (q : Fin 1024) :
    (outsAt0 m c t.val t.isLt).2.2.1 (ix3 z r q)
      = act (k0_pay2 (F := Ideal) (iblk m c 0 t) (iblk m c 1 t)) (iblk m c 2 t) (iblk m c 4 t) (carried m c t) r
          ⟨2048 + q.val, by omega⟩ := by
  unfold carried
  split <;> rename_i h
  all_goals first | rw [Gen.outsAt0_A m c t h] | rw [Gen.outsAt0_B m c t h]
  all_goals
    frame_open
    simp (disch := decide) only [↓ shift_read, ↓ View.readCov_skip, ↓ View.readCov_cons_toLoadRect, ↓ View.readCov_fill,
      read_unread_whole]
    frame_out
  all_goals first
    | have hC0 : ¬ t.val % 8 = 0 := h
      generalize (outsAt0 m c (t.val - 1) _).2.2.2.2.2.2 = X
      have hC : View.read (Elt Ideal) (View.whole cc0_scratch1) ((Memref.isWhole_whole cc0_scratch1).unread X) = X :=
        read_unread_whole _ _ _
      generalize View.read (Elt Ideal) (View.whole cc0_scratch1) _ = C at hC ⊢
      subst hC
    | generalize hC : k0_pay10 (F := Ideal) = C
      have hC0 : ∀ a b, C (ix2 a b) = 0 := fun a b => by rw [← hC]; exact pay10_apply a b
  all_goals
    generalize hH : k0_pay2 (F := Ideal) (iblk m c 0 t) (iblk m c 1 t) = H
    unfold k0_pay2 at hH
    dsimp only at hH
    try simp only [hH]
    clear hH
    canon_tiles x h
  all_goals idx_vars x
  all_goals
    obtain rfl : x1 = r := Fin.ext h1.symm
  all_goals
    have hq := q.isLt
    rw [h2] at hq
    obtain rfl : q = ⟨_, hq⟩ := Fin.ext h2
  all_goals
    open_payloads
    first
    | (have hz : ∀ a b, C (ix2 a b) = 0 := hC0
       pointwise [unit, act, silu, sigm, convB4, conv4, tap, shift, dot, zero_sub, named_eq, hz])
    | pointwise [unit, act, silu, sigm, convB4, conv4, tap, shift, dot, zero_sub, named_eq]
    try simp only [← Nat.add_assoc, Nat.reduceAdd]

end Cert.Proof.Gin

end
-- ==== Proof.GinZ.lean ====
/- The output gate, the step size and the decay that a grid point leaves, read at an index. -/
module

public import proofs.«01_k».proof.Proof.GinBlock

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

set_option maxHeartbeats 8000000 in
/-- The output gate's columns are the projection's columns 3072, …, 4095. -/
theorem z_apply (c : Dev nD) (t : Fin cfg0.N) (z : Fin 1) (r : Fin 512) (q : Fin 1024) :
    (outsAt0 m c t.val t.isLt).2.2.2.1 (ix3 z r q)
      = dot (fun k => k0_pay2 (F := Ideal) (iblk m c 0 t) (iblk m c 1 t) (ix2 r k))
          (fun k => (iblk m c 2 t : FVec Ideal S1024x4096 .bf16) (ix2 k ⟨3072 + q.val, by omega⟩)) := by
  by_cases hc : t.val % 8 = 0
  all_goals first | rw [Gen.outsAt0_A m c t hc] | rw [Gen.outsAt0_B m c t hc]
  all_goals
    frame_open
    simp (disch := decide) only [↓ shift_read, ↓ View.readCov_skip, ↓ View.readCov_cons_toLoadRect, ↓ View.readCov_fill,
      read_unread_whole]
    frame_out
    generalize hH : k0_pay2 (F := Ideal) (iblk m c 0 t) (iblk m c 1 t) = H
    unfold k0_pay2 at hH
    dsimp only at hH
    try simp only [hH]
    clear hH
    canon_tiles x h
  all_goals idx_vars x
  all_goals
    obtain rfl : x1 = r := Fin.ext h1.symm
  all_goals
    have hq := q.isLt
    rw [h2] at hq
    obtain rfl : q = ⟨_, hq⟩ := Fin.ext h2
  all_goals
    open_payloads
    pointwise [dot]
    try simp only [← Nat.add_assoc, Nat.reduceAdd]

set_option maxHeartbeats 8000000 in
/-- The step sizes. -/
theorem beta_apply (c : Dev nD) (t : Fin cfg0.N) (z : Fin 1) (a : Fin 8) (r : Fin 512) :
    (outsAt0 m c t.val t.isLt).2.2.2.2.2.1 (ix3 z a r)
      = sigm (dot (fun k => (iblk m c 3 t : FVec Ideal S16x1024 .bf16) (ix2 ⟨a.val, by omega⟩ k))
          (fun k => k0_pay2 (F := Ideal) (iblk m c 0 t) (iblk m c 1 t) (ix2 r k))) := by
  by_cases hc : t.val % 8 = 0
  all_goals first | rw [Gen.outsAt0_A m c t hc] | rw [Gen.outsAt0_B m c t hc]
  all_goals
    frame_open
    frame_out
    obtain rfl : z = 0 := Subsingleton.elim _ _
    open_payloads
    pointwise [dot, sigm, zero_sub, k0_pay2]

set_option maxHeartbeats 8000000 in
/-- The decays. -/
theorem g_apply (c : Dev nD) (t : Fin cfg0.N) (z : Fin 1) (a : Fin 8) (r : Fin 512) :
    (outsAt0 m c t.val t.isLt).2.2.2.2.1 (ix3 z a r)
      = -(Ideal.exp ((iblk m c 5 t : FVec Ideal S8x1 .f32) (ix2 a 0)))
          * softplus (dot (fun k => (iblk m c 3 t : FVec Ideal S16x1024 .bf16) (ix2 ⟨8 + a.val, by omega⟩ k))
            (fun k => k0_pay2 (F := Ideal) (iblk m c 0 t) (iblk m c 1 t) (ix2 r k))
            + (iblk m c 6 t : FVec Ideal S8x1 .f32) (ix2 a 0)) := by
  by_cases hc : t.val % 8 = 0
  all_goals first | rw [Gen.outsAt0_A m c t hc] | rw [Gen.outsAt0_B m c t hc]
  all_goals
    frame_open
    frame_out
    obtain rfl : z = 0 := Subsingleton.elim _ _
    open_payloads
    pointwise [dot, softplus, zero_sub, k0_pay2, k0_pay4, k0_pay5, k0_pay6, k0_pay7]
    rw [if_neg (fun e => e rfl)]
    rfl

end Cert.Proof.Gin

end
-- ==== Proof.GinCarry.lean ====
/- The rows a grid point carries on, read at an index. -/
module

public import proofs.«01_k».proof.Proof.GinBlock

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

set_option maxHeartbeats 8000000 in
/-- The rows a grid point leaves for the next are the last 8 rows of its projection. -/
theorem carry_apply (c : Dev nD) (t : Fin cfg0.N) (a : Fin 8) (q : Fin 3072) :
    (outsAt0 m c t.val t.isLt).2.2.2.2.2.2 (ix2 a q)
      = dot (fun k => k0_pay2 (F := Ideal) (iblk m c 0 t) (iblk m c 1 t) (ix2 ⟨504 + a.val, by omega⟩ k))
          (fun k => (iblk m c 2 t : FVec Ideal S1024x4096 .bf16) (ix2 k ⟨q.val, by omega⟩)) := by
  by_cases hc : t.val % 8 = 0
  all_goals first | rw [Gen.outsAt0_A m c t hc] | rw [Gen.outsAt0_B m c t hc]
  all_goals
    frame_open
    simp (disch := decide) only [↓ shift_read, ↓ View.readCov_skip, ↓ View.readCov_cons_toLoadRect, ↓ View.readCov_fill,
      read_unread_whole]
    frame_out
    generalize hH : k0_pay2 (F := Ideal) (iblk m c 0 t) (iblk m c 1 t) = H
    unfold k0_pay2 at hH
    dsimp only at hH
    try simp only [hH]
    clear hH
    try (rw [canon_dropLast _ _ (View.cover_of_tiled_head _ _ _ (by rfl) _)]; simp only [List.dropLast_cons₂, List.dropLast_singleton])
    canon_tiles x h
  all_goals idx_vars x
  all_goals
    obtain rfl : x0 = a := Fin.ext h0.symm
    have hq := q.isLt
    rw [h1] at hq
    obtain rfl : q = ⟨_, hq⟩ := Fin.ext h1
  all_goals
    open_payloads
    pointwise [dot]
    try simp only [← Nat.add_assoc, Nat.reduceAdd]

end Cert.Proof.Gin

end
-- ==== Proof.GinSpec.lean ====
/- The delta rule's projections as functions of the arrays: what the kernel and the reference both compute. -/
module

public import proofs.«01_k».proof.Proof.GinMath
public import proofs.«01_k».proof.Proof.FfnSpec

@[expose] public section

noncomputable section

namespace Cert.Proof.Gin

open Idealize.ShloMosaic Cert.Proof.Math Cert.Proof.Ffn

variable (x : FVec Ideal ⟨3, ![16, 4096, 1024]⟩ .f32) (nw : FVec Ideal ⟨1, ![1024]⟩ .f32)
  (w : FVec Ideal ⟨2, ![1024, 4112]⟩ .f32) (cw : FVec Ideal ⟨2, ![4, 3072]⟩ .f32) (al dt : FVec Ideal ⟨1, ![8]⟩ .f32)

/-- The normed state. -/
def hnAt (b : Fin 16) (s : Fin 4096) (k : Fin 1024) : EReal :=
  rms 0x44800000#32 (fun k => x (ix3 b s k)) (fun k => nw (ix1 k)) k

/-- The projection of the normed state at column `q`. -/
def projAt (b : Fin 16) (q : Fin 4112) (s : Fin 4096) : EReal := dot (hnAt x nw b s) (fun k => w (ix2 k q))

/-- The convolved and activated projection at column `q`. -/
def actAt (b : Fin 16) (s : Fin 4096) (q : Fin 3072) : EReal :=
  silu (conv4 (projAt x nw w b ⟨q.val, by omega⟩ s) (before 1 (projAt x nw w b ⟨q.val, by omega⟩) s)
    (before 2 (projAt x nw w b ⟨q.val, by omega⟩) s) (before 3 (projAt x nw w b ⟨q.val, by omega⟩) s)
    (cw (ix2 0 q)) (cw (ix2 1 q)) (cw (ix2 2 q)) (cw (ix2 3 q)))

/-- The query: a head of unit length, over the square root of 128. -/
def qAt (b : Fin 16) (s : Fin 4096) (q : Fin 1024) : EReal :=
  headAt (actAt x nw w cw b s) 0 (by decide) q * (((Real.sqrt 128)⁻¹ : ℝ) : EReal)

/-- The key: a head of unit length. -/
def kAt (b : Fin 16) (s : Fin 4096) (q : Fin 1024) : EReal := headAt (actAt x nw w cw b s) 1024 (by decide) q

/-- The value. -/
def vAt (b : Fin 16) (s : Fin 4096) (q : Fin 1024) : EReal := actAt x nw w cw b s ⟨2048 + q.val, by omega⟩

/-- The output gate. -/
def zAt (b : Fin 16) (s : Fin 4096) (q : Fin 1024) : EReal := projAt x nw w b ⟨3072 + q.val, by omega⟩ s

/-- The logarithm of the decay of head `h`. -/
def gAt (b : Fin 16) (h : Fin 8) (s : Fin 4096) : EReal :=
  -(Ideal.exp (al (ix1 h))) * softplus (projAt x nw w b ⟨4104 + h.val, by omega⟩ s + dt (ix1 h))

/-- The step size of head `h`. -/
def betaAt (b : Fin 16) (h : Fin 8) (s : Fin 4096) : EReal := sigm (projAt x nw w b ⟨4096 + h.val, by omega⟩ s)

end Cert.Proof.Gin

end
-- ==== Proof.GinArray.lean ====
/- The arrays the delta rule's projections leave, each as one function of the arguments. -/
module

public import proofs.«01_k».proof.Proof.GinQ
public import proofs.«01_k».proof.Proof.GinK
public import proofs.«01_k».proof.Proof.GinV
public import proofs.«01_k».proof.Proof.GinZ
public import proofs.«01_k».proof.Proof.GinCarry
public import proofs.«01_k».proof.Proof.GinSpec
public import Idealize.ShloMosaic.Lib.Claim

@[expose] public section

set_option maxRecDepth 16384

noncomputable section

namespace Cert.Proof.Gin

open Idealize.ShloMosaic Idealize.ShloMosaic.TcCoe Idealize.SL.Sem
open Cert.GinIdeal Cert.GinIdeal.Gen Cert.Proof.Math Cert.Proof.Ffn

variable (m : (ℓ : Loc nD τ sig) → Buf (Elt Ideal) ℓ)

theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![t.val / 8, t.val % 8, 0] ∧ win0_8.index t = ![t.val / 8, t.val % 8, 0]
    ∧ win0_9.index t = ![t.val / 8, t.val % 8, 0] ∧ win0_10.index t = ![t.val / 8, t.val % 8, 0]
    ∧ win0_11.index t = ![t.val / 8, 0, t.val % 8] ∧ win0_12.index t = ![t.val / 8, 0, t.val % 8] :=
  (by decide +kernel : ∀ t : Fin grid0.N, _)

theorem t_lt (t : Fin cfg0.N) : t.val < 128 := t.isLt

/-- The batch of a grid point. -/
def bOf (t : Fin cfg0.N) : Fin 16 := ⟨t.val / 8, by have := t_lt t; omega⟩

/-- The place in the sequence of row `r` of a grid point's block. -/
def sOf (t : Fin cfg0.N) (r : Fin 512) : Fin 4096 := ⟨512 * (t.val % 8) + r.val, by omega⟩

/-- The block the kernel reads, read at a row and column of it, is the array read at the block's place. -/
theorem read0 (c : Dev nD) (t : Fin cfg0.N) (r : Fin 512) (k : Fin 1024) :
    iblk m c 0 t (ix3 0 r k) = m ((c : Thread nD τ).loc main_arg0)
      (ix3 ⟨t.val / 8, by have := t_lt t; omega⟩ ⟨512 * (t.val % 8) + r.val, by omega⟩ k) := by
  blk_ext [iblk, V, idx t]
theorem read1 (c : Dev nD) (t : Fin cfg0.N) (k : Fin 1024) :
    iblk m c 1 t (ix2 0 k) = m ((c : Thread nD τ).loc main_arg1) (ix1 k) := by
  blk_simp [iblk, idx t]
  entry_read
  pointwise
  blk_point [iblk, V, idx t]
theorem read2 (c : Dev nD) (t : Fin cfg0.N) (k : Fin 1024) (j : Fin 4096) :
    iblk m c 2 t (ix2 k j) = m ((c : Thread nD τ).loc main_arg2) (ix2 k ⟨j.val, by omega⟩) := by
  blk_simp [iblk, idx t]
  entry_read
  pointwise
  blk_point [iblk, V, idx t]
theorem read3 (c : Dev nD) (t : Fin cfg0.N) (a : Fin 16) (k : Fin 1024) :
    iblk m c 3 t (ix2 a k) = m ((c : Thread nD τ).loc main_arg2) (ix2 k ⟨4096 + a.val, by omega⟩) := by
  blk_simp [iblk, idx t]
  entry_read
  pointwise
  blk_point [iblk, V, idx t]
theorem read4 (c : Dev nD) (t : Fin cfg0.N) (k : Fin 4) (j : Fin 3072) :
    iblk m c 4 t (ix2 k j) = m ((c : Thread nD τ).loc main_arg3) (ix2 k j) := by
  blk_ext [iblk, V, idx t]
theorem read5 (c : Dev nD) (t : Fin cfg0.N) (a : Fin 8) :
    iblk m c 5 t (ix2 a 0) = m ((c : Thread nD τ).loc main_arg4) (ix1 a) := by
  blk_simp [iblk, idx t]
  entry_read
  pointwise
  blk_point [iblk, V, idx t]
theorem read6 (c : Dev nD) (t : Fin cfg0.N) (a : Fin 8) :
    iblk m c 6 t (ix2 a 0) = m ((c : Thread nD τ).loc main_arg5) (ix1 a) := by
  blk_simp [iblk, idx t]
  entry_read
  pointwise
  blk_point [iblk, V, idx t]

theorem hn_eq (c : Dev nD) (t : Fin cfg0.N) (r : Fin 512) (k : Fin 1024) :
    k0_pay2 (F := Ideal) (iblk m c 0 t) (iblk m c 1 t) (ix2 r k)
      = hnAt (m ((c : Thread nD τ).loc main_arg0)) (m ((c : Thread nD τ).loc main_arg1)) (bOf t) (sOf t r) k := by
  rw [pay2_apply]
  unfold hnAt bOf sOf
  simp only [read0, read1]

theorem y_eq (c : Dev nD) (t : Fin cfg0.N) (r : Fin 512) (q : Fin 4096) :
    dot (fun k => k0_pay2 (F := Ideal) (iblk m c 0 t) (iblk m c 1 t) (ix2 r k))
        (fun k => (iblk m c 2 t : FVec Ideal S1024x4096 .bf16) (ix2 k q))
      = projAt (m ((c : Thread nD τ).loc main_arg0)) (m ((c : Thread nD τ).loc main_arg1)) (m ((c : Thread nD τ).loc main_arg2)) (bOf t) ⟨q.val, by omega⟩ (sOf t r) := by
  unfold projAt
  simp only [hn_eq, read2]

/-- The carried rows are zero at the start of a sequence; -/
theorem carried_zero (c : Dev nD) (t : Fin cfg0.N) (h : t.val % 8 = 0) (a : Fin 8) (q : Fin 3072) :
    carried m c t (ix2 a q) = 0 := by
  unfold carried
  rw [if_pos h]
  exact pay10_apply a q

/-- elsewhere they are the last 8 rows of the tile before. -/
theorem carried_prev (c : Dev nD) (t : Fin cfg0.N) (h : t.val % 8 ≠ 0) (a : Fin 8) (q : Fin 3072) :
    carried m c t (ix2 a q) = projAt (m ((c : Thread nD τ).loc main_arg0)) (m ((c : Thread nD τ).loc main_arg1)) (m ((c : Thread nD τ).loc main_arg2)) (bOf t) ⟨q.val, by omega⟩
      ⟨512 * (t.val % 8 - 1) + (504 + a.val), by omega⟩ := by
  unfold carried
  rw [if_neg h]
  have ht : t.val - 1 < cfg0.N := Nat.lt_of_le_of_lt (Nat.sub_le _ _) t.isLt
  refine (carry_apply m c ⟨t.val - 1, ht⟩ a q).trans ((y_eq m c ⟨t.val - 1, ht⟩ _ ⟨q.val, by omega⟩).trans ?_)
  refine congr (congrArg (projAt (m ((c : Thread nD τ).loc main_arg0)) (m ((c : Thread nD τ).loc main_arg1)) (m ((c : Thread nD τ).loc main_arg2)) · _) (Fin.ext ?_)) (Fin.ext ?_)
  · show (t.val - 1) / 8 = t.val / 8
    omega
  · show 512 * ((t.val - 1) % 8) + (504 + a.val) = 512 * (t.val % 8 - 1) + (504 + a.val)
    omega

theorem act_eq (c : Dev nD) (t : Fin cfg0.N) (r : Fin 512) (q : Fin 3072) :
    act (k0_pay2 (F := Ideal) (iblk m c 0 t) (iblk m c 1 t)) (iblk m c 2 t) (iblk m c 4 t) (carried m c t) r q
      = actAt (m ((c : Thread nD τ).loc main_arg0)) (m ((c : Thread nD τ).loc main_arg1)) (m ((c : Thread nD τ).loc main_arg2)) (m ((c : Thread nD τ).loc main_arg3)) (bOf t) (sOf t r) q := by
  unfold act convB4 actAt
  have T := fun o ho => tap_eq o ho (fun a => carried m c t (ix2 a q))
    (fun s => dot (fun k => k0_pay2 (F := Ideal) (iblk m c 0 t) (iblk m c 1 t) (ix2 s k))
      (fun k => (iblk m c 2 t : FVec Ideal S1024x4096 .bf16) (ix2 k ⟨q.val, by omega⟩)))
    (projAt (m ((c : Thread nD τ).loc main_arg0)) (m ((c : Thread nD τ).loc main_arg1)) (m ((c : Thread nD τ).loc main_arg2)) (bOf t) ⟨q.val, by omega⟩) (t.val % 8)
    (Nat.mod_lt _ (by decide)) (fun r => y_eq m c t r ⟨q.val, by omega⟩) (fun h a => carried_zero m c t h a q)
    (fun h a => carried_prev m c t h a q) r
  rw [T, T, T]
  simp only [y_eq, read4]
  rfl

theorem actf_eq (c : Dev nD) (t : Fin cfg0.N) (r : Fin 512) :
    act (k0_pay2 (F := Ideal) (iblk m c 0 t) (iblk m c 1 t)) (iblk m c 2 t) (iblk m c 4 t) (carried m c t) r
      = actAt (m ((c : Thread nD τ).loc main_arg0)) (m ((c : Thread nD τ).loc main_arg1)) (m ((c : Thread nD τ).loc main_arg2)) (m ((c : Thread nD τ).loc main_arg3)) (bOf t) (sOf t r) := funext fun q => act_eq m c t r q

/-- The products of the step size and the decay have their factors the other way round. -/
theorem ba_eq (c : Dev nD) (t : Fin cfg0.N) (a : Fin 16) (r : Fin 512) :
    dot (fun k => (iblk m c 3 t : FVec Ideal S16x1024 .bf16) (ix2 a k))
        (fun k => k0_pay2 (F := Ideal) (iblk m c 0 t) (iblk m c 1 t) (ix2 r k))
      = projAt (m ((c : Thread nD τ).loc main_arg0)) (m ((c : Thread nD τ).loc main_arg1)) (m ((c : Thread nD τ).loc main_arg2)) (bOf t) ⟨4096 + a.val, by omega⟩ (sOf t r) := by
  unfold projAt dot
  refine Finset.sum_congr rfl fun k _ => ?_
  simp only [hn_eq, read3]
  exact mul_comm _ _

theorem q_block (c : Dev nD) (t : Fin cfg0.N) (z : Fin 1) (r : Fin 512) (q : Fin 1024) :
    (outsAt0 m c t.val t.isLt).1 (ix3 z r q) = qAt (m ((c : Thread nD τ).loc main_arg0)) (m ((c : Thread nD τ).loc main_arg1)) (m ((c : Thread nD τ).loc main_arg2)) (m ((c : Thread nD τ).loc main_arg3)) (bOf t) (sOf t r) q := by
  refine (q_apply m c t z r q).trans ?_
  rw [actf_eq]
  rfl

/-- The query array after the run. -/
theorem final_q (c : Dev nD) : (dats m 0 c).arrAt 7 (cfgs 0).N = fun i : S16x4096x1024.Idx =>
    qAt (m ((c : Thread nD τ).loc main_arg0)) (m ((c : Thread nD τ).loc main_arg1)) (m ((c : Thread nD τ).loc main_arg2)) (m ((c : Thread nD τ).loc main_arg3)) (i 0) (i 1) (i 2) := by
  refine (dats m 0 c).arrAt_eq_of_covers 7 _ (by decide +kernel) fun t _ y => ?_
  blk_simp
  rw [after0_7]
  refine (congrArg _ (eq_ix3 y)).trans ((q_block m c t (y 0) (y 1) (y 2)).trans ?_)
  refine congr (congr (congrArg _ (Fin.ext ?_)) (Fin.ext ?_)) (Fin.ext ?_) <;> blk_simp [idx t]
  · rfl
  · show 512 * (t.val % 8) + (y 1).val = t.val % 8 * 512 + (y 1).val
    omega

theorem k_block (c : Dev nD) (t : Fin cfg0.N) (z : Fin 1) (r : Fin 512) (q : Fin 1024) :
    (outsAt0 m c t.val t.isLt).2.1 (ix3 z r q) = kAt (m ((c : Thread nD τ).loc main_arg0)) (m ((c : Thread nD τ).loc main_arg1)) (m ((c : Thread nD τ).loc main_arg2)) (m ((c : Thread nD τ).loc main_arg3)) (bOf t) (sOf t r) q := by
  refine (k_apply m c t z r q).trans ?_
  rw [actf_eq]
  rfl

/-- The key array after the run. -/
theorem final_k (c : Dev nD) : (dats m 0 c).arrAt 8 (cfgs 0).N = fun i : S16x4096x1024.Idx =>
    kAt (m ((c : Thread nD τ).loc main_arg0)) (m ((c : Thread nD τ).loc main_arg1)) (m ((c : Thread nD τ).loc main_arg2)) (m ((c : Thread nD τ).loc main_arg3)) (i 0) (i 1) (i 2) := by
  refine (dats m 0 c).arrAt_eq_of_covers 8 _ (by decide +kernel) fun t _ y => ?_
  blk_simp
  rw [after0_8]
  refine (congrArg _ (eq_ix3 y)).trans ((k_block m c t (y 0) (y 1) (y 2)).trans ?_)
  refine congr (congr (congrArg _ (Fin.ext ?_)) (Fin.ext ?_)) (Fin.ext ?_) <;> blk_simp [idx t]
  · rfl
  · show 512 * (t.val % 8) + (y 1).val = t.val % 8 * 512 + (y 1).val
    omega

theorem v_block (c : Dev nD) (t : Fin cfg0.N) (z : Fin 1) (r : Fin 512) (q : Fin 1024) :
    (outsAt0 m c t.val t.isLt).2.2.1 (ix3 z r q) = vAt (m ((c : Thread nD τ).loc main_arg0)) (m ((c : Thread nD τ).loc main_arg1)) (m ((c : Thread nD τ).loc main_arg2)) (m ((c : Thread nD τ).loc main_arg3)) (bOf t) (sOf t r) q := by
  refine (v_apply m c t z r q).trans ?_
  rw [actf_eq]
  rfl

/-- The value array after the run. -/
theorem final_v (c : Dev nD) : (dats m 0 c).arrAt 9 (cfgs 0).N = fun i : S16x4096x1024.Idx =>
    vAt (m ((c : Thread nD τ).loc main_arg0)) (m ((c : Thread nD τ).loc main_arg1)) (m ((c : Thread nD τ).loc main_arg2)) (m ((c : Thread nD τ).loc main_arg3)) (i 0) (i 1) (i 2) := by
  refine (dats m 0 c).arrAt_eq_of_covers 9 _ (by decide +kernel) fun t _ y => ?_
  blk_simp
  rw [after0_9]
  refine (congrArg _ (eq_ix3 y)).trans ((v_block m c t (y 0) (y 1) (y 2)).trans ?_)
  refine congr (congr (congrArg _ (Fin.ext ?_)) (Fin.ext ?_)) (Fin.ext ?_) <;> blk_simp [idx t]
  · rfl
  · show 512 * (t.val % 8) + (y 1).val = t.val % 8 * 512 + (y 1).val
    omega

theorem z_block (c : Dev nD) (t : Fin cfg0.N) (z : Fin 1) (r : Fin 512) (q : Fin 1024) :
    (outsAt0 m c t.val t.isLt).2.2.2.1 (ix3 z r q) = zAt (m ((c : Thread nD τ).loc main_arg0)) (m ((c : Thread nD τ).loc main_arg1)) (m ((c : Thread nD τ).loc main_arg2)) (bOf t) (sOf t r) q := by
  refine (z_apply m c t z r q).trans ?_
  exact y_eq m c t r ⟨3072 + q.val, by omega⟩

/-- The output gate array after the run. -/
theorem final_z (c : Dev nD) : (dats m 0 c).arrAt 10 (cfgs 0).N = fun i : S16x4096x1024.Idx =>
    zAt (m ((c : Thread nD τ).loc main_arg0)) (m ((c : Thread nD τ).loc main_arg1)) (m ((c : Thread nD τ).loc main_arg2)) (i 0) (i 1) (i 2) := by
  refine (dats m 0 c).arrAt_eq_of_covers 10 _ (by decide +kernel) fun t _ y => ?_
  blk_simp
  rw [after0_10]
  refine (congrArg _ (eq_ix3 y)).trans ((z_block m c t (y 0) (y 1) (y 2)).trans ?_)
  refine congr (congr (congrArg _ (Fin.ext ?_)) (Fin.ext ?_)) (Fin.ext ?_) <;> blk_simp [idx t]
  · rfl
  · show 512 * (t.val % 8) + (y 1).val = t.val % 8 * 512 + (y 1).val
    omega

theorem g_block (c : Dev nD) (t : Fin cfg0.N) (z : Fin 1) (a : Fin 8) (r : Fin 512) :
    (outsAt0 m c t.val t.isLt).2.2.2.2.1 (ix3 z a r) = gAt (m ((c : Thread nD τ).loc main_arg0)) (m ((c : Thread nD τ).loc main_arg1)) (m ((c : Thread nD τ).loc main_arg2)) (m ((c : Thread nD τ).loc main_arg4)) (m ((c : Thread nD τ).loc main_arg5)) (bOf t) a (sOf t r) := by
  refine (g_apply m c t z a r).trans ?_
  unfold gAt
  rw [ba_eq, read5, read6]
  refine congrArg (fun p => _ * softplus (p + _)) (congrArg (projAt (m ((c : Thread nD τ).loc main_arg0)) (m ((c : Thread nD τ).loc main_arg1)) (m ((c : Thread nD τ).loc main_arg2)) (bOf t) · _) (Fin.ext ?_))
  show 4096 + (8 + a.val) = 4104 + a.val
  omega

/-- The array of the decays after the run. -/
theorem final_g (c : Dev nD) : (dats m 0 c).arrAt 11 (cfgs 0).N = fun i : S16x8x4096.Idx =>
    gAt (m ((c : Thread nD τ).loc main_arg0)) (m ((c : Thread nD τ).loc main_arg1)) (m ((c : Thread nD τ).loc main_arg2)) (m ((c : Thread nD τ).loc main_arg4)) (m ((c : Thread nD τ).loc main_arg5)) (i 0) (i 1) (i 2) := by
  refine (dats m 0 c).arrAt_eq_of_covers 11 _ (by decide +kernel) fun t _ y => ?_
  blk_simp
  rw [after0_11]
  refine (congrArg _ (eq_ix3 y)).trans ((g_block m c t (y 0) (y 1) (y 2)).trans ?_)
  refine congr (congr (congrArg _ (Fin.ext ?_)) (Fin.ext ?_)) (Fin.ext ?_) <;> blk_simp [idx t]
  · rfl
  · show 512 * (t.val % 8) + (y 2).val = t.val % 8 * 512 + (y 2).val
    omega

theorem beta_block (c : Dev nD) (t : Fin cfg0.N) (z : Fin 1) (a : Fin 8) (r : Fin 512) :
    (outsAt0 m c t.val t.isLt).2.2.2.2.2.1 (ix3 z a r) = betaAt (m ((c : Thread nD τ).loc main_arg0)) (m ((c : Thread nD τ).loc main_arg1)) (m ((c : Thread nD τ).loc main_arg2)) (bOf t) a (sOf t r) := by
  refine (beta_apply m c t z a r).trans ?_
  unfold betaAt
  rw [ba_eq]

/-- The array of the step sizes after the run. -/
theorem final_beta (c : Dev nD) : (dats m 0 c).arrAt 12 (cfgs 0).N = fun i : S16x8x4096.Idx =>
    betaAt (m ((c : Thread nD τ).loc main_arg0)) (m ((c : Thread nD τ).loc main_arg1)) (m ((c : Thread nD τ).loc main_arg2)) (i 0) (i 1) (i 2) := by
  refine (dats m 0 c).arrAt_eq_of_covers 12 _ (by decide +kernel) fun t _ y => ?_
  blk_simp
  rw [after0_12]
  refine (congrArg _ (eq_ix3 y)).trans ((beta_block m c t (y 0) (y 1) (y 2)).trans ?_)
  refine congr (congr (congrArg _ (Fin.ext ?_)) (Fin.ext ?_)) (Fin.ext ?_) <;> blk_simp [idx t]
  · rfl
  · show 512 * (t.val % 8) + (y 2).val = t.val % 8 * 512 + (y 2).val
    omega

end Cert.Proof.Gin

end
-- ==== Proof.GinRef.lean ====
/- The reference of the delta rule's projections, read at an index. -/
module

public import proofs.«01_k».proof.Proof.GinSpec
public import proofs.«01_k».proof.Proof.Gen.GinRefIdeal.Read
public import Idealize.ShloMosaic.Lib.Pointwise

@[expose] public section

set_option maxRecDepth 16384

noncomputable section

namespace Cert.Proof.GinRef

open Idealize.ShloMosaic Idealize.ShloMosaic.TcCoe Idealize.SL.Sem
open Cert.GinRefIdeal Cert.GinRefIdeal.Read Cert.Proof.Math Cert.Proof.Gin

variable (x0 : FVec Ideal S16x4096x1024 .f32) (x1 : FVec Ideal S1024 .f32) (x2 : FVec Ideal S1024x4112 .f32)
  (x3 : FVec Ideal S4x3072 .f32) (x4 x5 : FVec Ideal S8 .f32)

theorem hn_apply (b : Fin 16) (s : Fin 4096) (k : Fin 1024) :
    val_main_v12 (F := Ideal) x0 x1 (ix3 b s k) = hnAt x0 x1 b s k := by
  pointwise [val_main_v12, val_main_v11, val_main_v10, val_main_v9, val_main_v8, val_main_v7, val_main_v6, val_main_v5, val_main_v4, val_main_v3, val_main_v2, val_main_v1, val_main_v0, val_main_cst, val_main_cst_0, val_main_cst_1, hnAt, rms]

theorem proj_apply (b : Fin 16) (s : Fin 4096) (q : Fin 4112) :
    val_main_v13 (F := Ideal) x0 x1 x2 (ix3 b s q) = projAt x0 x1 x2 b q s := by
  pointwise [val_main_v13, projAt, dot, hn_apply]

theorem pad_apply (b : Fin 16) (s : Fin 4099) (q : Fin 3072) :
    val_main_v18 (F := Ideal) x0 x1 x2 (ix3 b s q)
      = if h : 3 ≤ s.val then projAt x0 x1 x2 b ⟨q.val, by omega⟩ ⟨s.val - 3, by omega⟩ else 0 := by
  pointwise [val_main_v18, val_main_v14, val_main_call0_v0, val_main_c, proj_apply]
  have z : FloatOps.sitofp (F := Ideal) .f32 (0#32 : BitVec 32) = (0 : EReal) := by
    show (((0#32 : BitVec 32).toInt : ℝ) : EReal) = 0
    simp
  by_cases h : 3 ≤ s.val
  · rw [dif_pos ⟨h, by omega⟩, dif_pos h]
  · rw [dif_neg (fun h' => h h'.1), dif_neg h]
    exact z

theorem shift0 (b : Fin 16) (s : Fin 4096) (q : Fin 3072) :
    val_main_v19 (F := Ideal) x0 x1 x2 (ix3 b s q) = Ffn.before 3 (projAt x0 x1 x2 b ⟨q.val, by omega⟩) s := by
  pointwise [val_main_v19, pad_apply, Ffn.before]
  by_cases h : 3 ≤ s.val
  · rw [dif_pos h, if_pos h]
  · rw [dif_neg h, if_neg h]

theorem shift1 (b : Fin 16) (s : Fin 4096) (q : Fin 3072) :
    val_main_v27 (F := Ideal) x0 x1 x2 (ix3 b s q) = Ffn.before 2 (projAt x0 x1 x2 b ⟨q.val, by omega⟩) s := by
  pointwise [val_main_v27, pad_apply, Ffn.before]
  by_cases h : 2 ≤ s.val
  · rw [dif_pos (by omega), if_pos h]
    exact congrArg _ (Fin.ext (by show 1 + s.val - 3 = s.val - 2; omega))
  · rw [dif_neg (by omega), if_neg h]

theorem shift2 (b : Fin 16) (s : Fin 4096) (q : Fin 3072) :
    val_main_v34 (F := Ideal) x0 x1 x2 (ix3 b s q) = Ffn.before 1 (projAt x0 x1 x2 b ⟨q.val, by omega⟩) s := by
  pointwise [val_main_v34, pad_apply, Ffn.before]
  by_cases h : 1 ≤ s.val
  · rw [dif_pos (by omega), if_pos h]
    exact congrArg _ (Fin.ext (by show 2 + s.val - 3 = s.val - 1; omega))
  · rw [dif_neg (by omega), if_neg h]

theorem shift3 (b : Fin 16) (s : Fin 4096) (q : Fin 3072) :
    val_main_v41 (F := Ideal) x0 x1 x2 (ix3 b s q) = projAt x0 x1 x2 b ⟨q.val, by omega⟩ s := by
  pointwise [val_main_v41, pad_apply]

/-- Four summands in the kernel's order. -/
theorem add_rows (a b c d : EReal) : a + b + c + d = d + a + b + c := by
  rw [add_comm (a + b + c) d, ← add_assoc, ← add_assoc]

theorem conv_apply (b : Fin 16) (s : Fin 4096) (q : Fin 3072) :
    val_main_v47 (F := Ideal) x0 x1 x2 x3 (ix3 b s q)
      = conv4 (projAt x0 x1 x2 b ⟨q.val, by omega⟩ s) (Ffn.before 1 (projAt x0 x1 x2 b ⟨q.val, by omega⟩) s)
        (Ffn.before 2 (projAt x0 x1 x2 b ⟨q.val, by omega⟩) s) (Ffn.before 3 (projAt x0 x1 x2 b ⟨q.val, by omega⟩) s)
        (x3 (ix2 0 q)) (x3 (ix2 1 q)) (x3 (ix2 2 q)) (x3 (ix2 3 q)) := by
  pointwise [val_main_v47, val_main_v46, val_main_v45, val_main_v44, val_main_v43, val_main_v42, val_main_v40, val_main_v39, val_main_v38, val_main_v37, val_main_v36, val_main_v35, val_main_v33, val_main_v32, val_main_v31, val_main_v30, val_main_v29, val_main_v28, val_main_v26, val_main_v25, val_main_v24, val_main_v23, val_main_v22, val_main_v21, val_main_v20, val_main_cst_2,
    shift0, shift1, shift2, shift3, conv4]
  exact add_rows _ _ _ _

theorem act_apply (b : Fin 16) (s : Fin 4096) (q : Fin 3072) :
    val_main_v48 (F := Ideal) x0 x1 x2 x3 (ix3 b s q) = actAt x0 x1 x2 x3 b s q := by
  pointwise [val_main_v48, val_main_call1_v5, val_main_call1_v4, val_main_call1_v3, val_main_call1_v2,
    val_main_call1_v1, val_main_call1_v0, val_main_call1_cst, val_main_call1_cst_0, conv_apply, actAt, silu, sigm]

/-- The float word of 128. -/
theorem ofBits_128 : Ideal.ofBits .f32 0x43000000#32 = ((128 : ℝ) : EReal) := by
  simp [Ideal.ofBits, Ideal.ieee, -EReal.coe_mul]
  norm_num

/-- Dividing by the root of 128 is multiplying by its inverse. -/
theorem div_root (a : EReal) :
    Ideal.div a (Ideal.sqrt (Ideal.ofBits .f32 0x43000000#32)) = a * (((Real.sqrt 128)⁻¹ : ℝ) : EReal) := by
  rw [ofBits_128]
  have e : Ideal.sqrt ((128 : ℝ) : EReal) = ((Real.sqrt 128 : ℝ) : EReal) := if_neg (by norm_num)
  rw [e]
  rw [Ideal.div_coe (Real.sqrt_ne_zero'.mpr (by norm_num)), one_div]

/-- A head's column of the reshaped array is a column of the array. -/
theorem qhead_apply (b : Fin 16) (s : Fin 4096) (h : Fin 8) (d : Fin 128) :
    val_main_v52 (F := Ideal) x0 x1 x2 x3 (ix4 b s h d)
      = actAt x0 x1 x2 x3 b s ⟨128 * h.val + d.val, by omega⟩ := by
  have e : idx_main_v52 (ix4 b s h d) = ix3 b s ⟨128 * h.val + d.val, by omega⟩ := by
    funext a
    refine Fin.ext ?_
    match a with
    | ⟨0, _⟩ =>
      show (((b.val * 4096 + s.val) * 8 + h.val) * 128 + d.val) / 4194304 = b.val
      omega
    | ⟨1, _⟩ =>
      show (((b.val * 4096 + s.val) * 8 + h.val) * 128 + d.val) / 1024 % 4096 = s.val
      omega
    | ⟨2, _⟩ =>
      show (((b.val * 4096 + s.val) * 8 + h.val) * 128 + d.val) % 1024 = 128 * h.val + d.val
      omega
  rw [val_main_v52_apply, e]
  pointwise [val_main_v49, act_apply]

/-- A head's column of the reshaped array is a column of the array. -/
theorem khead_apply (b : Fin 16) (s : Fin 4096) (h : Fin 8) (d : Fin 128) :
    val_main_v64 (F := Ideal) x0 x1 x2 x3 (ix4 b s h d)
      = actAt x0 x1 x2 x3 b s ⟨1024 + (128 * h.val + d.val), by omega⟩ := by
  have e : idx_main_v64 (ix4 b s h d) = ix3 b s ⟨128 * h.val + d.val, by omega⟩ := by
    funext a
    refine Fin.ext ?_
    match a with
    | ⟨0, _⟩ =>
      show (((b.val * 4096 + s.val) * 8 + h.val) * 128 + d.val) / 4194304 = b.val
      omega
    | ⟨1, _⟩ =>
      show (((b.val * 4096 + s.val) * 8 + h.val) * 128 + d.val) / 1024 % 4096 = s.val
      omega
    | ⟨2, _⟩ =>
      show (((b.val * 4096 + s.val) * 8 + h.val) * 128 + d.val) % 1024 = 128 * h.val + d.val
      omega
  rw [val_main_v64_apply, e]
  pointwise [val_main_v50, act_apply]

/-- A column of the flattened array is a head's column. -/
theorem qflat_apply (b : Fin 16) (s : Fin 4096) (q : Fin 1024) :
    val_main_v88 (F := Ideal) x0 x1 x2 x3 (ix3 b s q)
      = val_main_v63 (F := Ideal) x0 x1 x2 x3 (ix4 b s ⟨q.val / 128, by omega⟩ ⟨q.val % 128, by omega⟩) := by
  have e : idx_main_v88 (ix3 b s q) = ix4 b s ⟨q.val / 128, by omega⟩ ⟨q.val % 128, by omega⟩ := by
    funext a
    refine Fin.ext ?_
    match a with
    | ⟨0, _⟩ =>
      show ((b.val * 4096 + s.val) * 1024 + q.val) / 4194304 = b.val
      omega
    | ⟨1, _⟩ =>
      show ((b.val * 4096 + s.val) * 1024 + q.val) / 1024 % 4096 = s.val
      omega
    | ⟨2, _⟩ =>
      show ((b.val * 4096 + s.val) * 1024 + q.val) / 128 % 8 = q.val / 128
      omega
    | ⟨3, _⟩ =>
      show ((b.val * 4096 + s.val) * 1024 + q.val) % 128 = q.val % 128
      omega
  rw [val_main_v88_apply, e]

/-- A column of the flattened array is a head's column. -/
theorem kflat_apply (b : Fin 16) (s : Fin 4096) (q : Fin 1024) :
    val_main_v90 (F := Ideal) x0 x1 x2 x3 (ix3 b s q)
      = val_main_v72 (F := Ideal) x0 x1 x2 x3 (ix4 b s ⟨q.val / 128, by omega⟩ ⟨q.val % 128, by omega⟩) := by
  have e : idx_main_v90 (ix3 b s q) = ix4 b s ⟨q.val / 128, by omega⟩ ⟨q.val % 128, by omega⟩ := by
    funext a
    refine Fin.ext ?_
    match a with
    | ⟨0, _⟩ =>
      show ((b.val * 4096 + s.val) * 1024 + q.val) / 4194304 = b.val
      omega
    | ⟨1, _⟩ =>
      show ((b.val * 4096 + s.val) * 1024 + q.val) / 1024 % 4096 = s.val
      omega
    | ⟨2, _⟩ =>
      show ((b.val * 4096 + s.val) * 1024 + q.val) / 128 % 8 = q.val / 128
      omega
    | ⟨3, _⟩ =>
      show ((b.val * 4096 + s.val) * 1024 + q.val) % 128 = q.val % 128
      omega
  rw [val_main_v90_apply, e]

/-- The square of a head's length: -/
theorem qsum_apply (b : Fin 16) (s : Fin 4096) (h : Fin 8) :
    val_main_v54 (F := Ideal) x0 x1 x2 x3 (ix3 b s h) = ∑ d : Fin 128, actAt x0 x1 x2 x3 b s ⟨128 * h.val + d.val, by omega⟩ * actAt x0 x1 x2 x3 b s ⟨128 * h.val + d.val, by omega⟩ := by
  have z : ∀ i, val_main_cst_3 (F := Ideal) i = (0 : EReal) := fun i => by
    rw [val_main_cst_3_apply]
    exact Ideal.ofBits_zero_f32
  rw [val_main_v54_apply, z, zero_add]
  refine Finset.sum_congr rfl fun k _ => ?_
  have e : idx_main_v54 (ix3 b s h) k = ix4 b s h k := by
    funext a
    match a with
    | ⟨0, _⟩ => rfl
    | ⟨1, _⟩ => rfl
    | ⟨2, _⟩ => rfl
    | ⟨3, _⟩ => rfl
  rw [e, val_main_v53_apply, qhead_apply]
  rfl

theorem qroot_apply (b : Fin 16) (s : Fin 4096) (h : Fin 8) :
    val_main_v58 (F := Ideal) x0 x1 x2 x3 (ix4 b s h 0)
      = Ideal.rsqrt ((∑ d : Fin 128, actAt x0 x1 x2 x3 b s ⟨128 * h.val + d.val, by omega⟩ * actAt x0 x1 x2 x3 b s ⟨128 * h.val + d.val, by omega⟩) + Ideal.ofBits .f32 0x358637BD#32) := by
  have e : idx_main_v55 (ix4 b s h 0) = ix3 b s h := by
    funext a
    match a with
    | ⟨0, _⟩ => rfl
    | ⟨1, _⟩ => rfl
    | ⟨2, _⟩ => rfl
  rw [val_main_v58_apply, val_main_v57_apply, val_main_v55_apply, e, qsum_apply, val_main_v56_apply, val_main_cst_4_apply]
  rfl

/-- a head's columns divided by its length. -/
theorem qunit_apply (b : Fin 16) (s : Fin 4096) (h : Fin 8) (d : Fin 128) :
    val_main_v60 (F := Ideal) x0 x1 x2 x3 (ix4 b s h d) = unit (fun d : Fin 128 => actAt x0 x1 x2 x3 b s ⟨128 * h.val + d.val, by omega⟩) d := by
  have e : idx_main_v59 (ix4 b s h d) = ix4 b s h 0 := by
    funext a
    match a with
    | ⟨0, _⟩ => rfl
    | ⟨1, _⟩ => rfl
    | ⟨2, _⟩ => rfl
    | ⟨3, _⟩ => rfl
  rw [val_main_v60_apply, val_main_v59_apply, e, qroot_apply, qhead_apply]
  rfl

/-- The square of a head's length: -/
theorem ksum_apply (b : Fin 16) (s : Fin 4096) (h : Fin 8) :
    val_main_v66 (F := Ideal) x0 x1 x2 x3 (ix3 b s h) = ∑ d : Fin 128, actAt x0 x1 x2 x3 b s ⟨1024 + (128 * h.val + d.val), by omega⟩ * actAt x0 x1 x2 x3 b s ⟨1024 + (128 * h.val + d.val), by omega⟩ := by
  have z : ∀ i, val_main_cst_6 (F := Ideal) i = (0 : EReal) := fun i => by
    rw [val_main_cst_6_apply]
    exact Ideal.ofBits_zero_f32
  rw [val_main_v66_apply, z, zero_add]
  refine Finset.sum_congr rfl fun k _ => ?_
  have e : idx_main_v66 (ix3 b s h) k = ix4 b s h k := by
    funext a
    match a with
    | ⟨0, _⟩ => rfl
    | ⟨1, _⟩ => rfl
    | ⟨2, _⟩ => rfl
    | ⟨3, _⟩ => rfl
  rw [e, val_main_v65_apply, khead_apply]
  rfl

theorem kroot_apply (b : Fin 16) (s : Fin 4096) (h : Fin 8) :
    val_main_v70 (F := Ideal) x0 x1 x2 x3 (ix4 b s h 0)
      = Ideal.rsqrt ((∑ d : Fin 128, actAt x0 x1 x2 x3 b s ⟨1024 + (128 * h.val + d.val), by omega⟩ * actAt x0 x1 x2 x3 b s ⟨1024 + (128 * h.val + d.val), by omega⟩) + Ideal.ofBits .f32 0x358637BD#32) := by
  have e : idx_main_v67 (ix4 b s h 0) = ix3 b s h := by
    funext a
    match a with
    | ⟨0, _⟩ => rfl
    | ⟨1, _⟩ => rfl
    | ⟨2, _⟩ => rfl
  rw [val_main_v70_apply, val_main_v69_apply, val_main_v67_apply, e, ksum_apply, val_main_v68_apply, val_main_cst_7_apply]
  rfl

/-- a head's columns divided by its length. -/
theorem kunit_apply (b : Fin 16) (s : Fin 4096) (h : Fin 8) (d : Fin 128) :
    val_main_v72 (F := Ideal) x0 x1 x2 x3 (ix4 b s h d) = unit (fun d : Fin 128 => actAt x0 x1 x2 x3 b s ⟨1024 + (128 * h.val + d.val), by omega⟩) d := by
  have e : idx_main_v71 (ix4 b s h d) = ix4 b s h 0 := by
    funext a
    match a with
    | ⟨0, _⟩ => rfl
    | ⟨1, _⟩ => rfl
    | ⟨2, _⟩ => rfl
    | ⟨3, _⟩ => rfl
  rw [val_main_v72_apply, val_main_v71_apply, e, kroot_apply, khead_apply]
  rfl

/-- The queries, -/
theorem q_apply (b : Fin 16) (s : Fin 4096) (q : Fin 1024) :
    val_main_v89 (F := Ideal) x0 x1 x2 x3 (ix3 b s q) = qAt x0 x1 x2 x3 b s q := by
  refine (qflat_apply x0 x1 x2 x3 b s q).trans ?_
  have e : ∀ (h : Fin 8) (d : Fin 128), val_main_v63 (F := Ideal) x0 x1 x2 x3 (ix4 b s h d)
      = val_main_v60 (F := Ideal) x0 x1 x2 x3 (ix4 b s h d) * (((Real.sqrt 128)⁻¹ : ℝ) : EReal) := fun h d => by
    rw [← div_root]
    pointwise [val_main_v63, val_main_v62, val_main_v61, val_main_cst_5]
  rw [e, qunit_apply]
  unfold qAt headAt
  simp only [Nat.zero_add]

/-- the keys, -/
theorem k_apply (b : Fin 16) (s : Fin 4096) (q : Fin 1024) :
    val_main_v91 (F := Ideal) x0 x1 x2 x3 (ix3 b s q) = kAt x0 x1 x2 x3 b s q :=
  (kflat_apply x0 x1 x2 x3 b s q).trans (kunit_apply x0 x1 x2 x3 b s _ _)

/-- the values, -/
theorem v_apply (b : Fin 16) (s : Fin 4096) (q : Fin 1024) :
    val_main_v92 (F := Ideal) x0 x1 x2 x3 (ix3 b s q) = vAt x0 x1 x2 x3 b s q := by
  pointwise [val_main_v92, val_main_v51, act_apply, vAt]

/-- the output gate, -/
theorem z_apply (b : Fin 16) (s : Fin 4096) (q : Fin 1024) :
    val_main_v93 (F := Ideal) x0 x1 x2 (ix3 b s q) = zAt x0 x1 x2 b s q := by
  pointwise [val_main_v93, val_main_v15, proj_apply, zAt]

/-- the decays -/
theorem g_apply (b : Fin 16) (h : Fin 8) (s : Fin 4096) :
    val_main_v94 (F := Ideal) x0 x1 x2 x4 x5 (ix3 b h s) = gAt x0 x1 x2 x4 x5 b h s := by
  pointwise [val_main_v94, val_main_v87, val_main_v86, val_main_v85, val_main_v84, val_main_v83, val_main_v82, val_main_v81, val_main_v80, val_main_v79, val_main_v17, val_main_call2_v11, val_main_call2_v10, val_main_call2_v9,
    val_main_call2_v8, val_main_call2_v7, val_main_call2_v6, val_main_call2_v5, val_main_call2_v4, val_main_call2_v3,
    val_main_call2_v2, val_main_call2_v1, val_main_call2_v0, val_main_call2_cst, proj_apply, gAt, softplus]
  rw [if_neg (fun e => e rfl)]
  rfl

/-- and the step sizes are the functions of the arrays. -/
theorem beta_apply (b : Fin 16) (h : Fin 8) (s : Fin 4096) :
    val_main_v95 (F := Ideal) x0 x1 x2 (ix3 b h s) = betaAt x0 x1 x2 b h s := by
  pointwise [val_main_v95, val_main_v78, val_main_v77, val_main_v76, val_main_v75, val_main_v74, val_main_v73, val_main_v16, val_main_cst_8, val_main_cst_9, proj_apply, betaAt, sigm]

end Cert.Proof.GinRef

end
-- ==== Proof.GinClaims.lean ====
/- The claims about the delta rule's projections: the named constant, and that the two runs end with the same arrays. -/
module

public import proofs.«01_k».proof.Defs
public import proofs.«01_k».proof.Proof.GinArray
public import proofs.«01_k».proof.Proof.GinRef
public import proofs.«01_k».proof.Proof.Gen.GinRefIdeal.Run

@[expose] public section

set_option maxRecDepth 16384

noncomputable section

namespace Cert.Proof.GinClaims

open Idealize.ShloMosaic Idealize.ShloMosaic.TcCoe Idealize.SL.Sem

/-- The named literal is the reciprocal of the root of 128. -/
theorem preserves : Cert.preserves_Gin_GinIdeal :=
  IdealRules.named_const.statement Cert.GinIdeal.κ "isqrt128" .f32 0x3DB504F3#32 (((Real.sqrt 128)⁻¹ : ℝ) : EReal) rfl

/-- From memories that agree on the arguments the kernel's six result arrays and the reference's are the same functions. -/
theorem algebraic : Cert.algebraic_GinIdeal_GinRefIdeal := by
  intro m ρ m' ρ' _ hagree
  refine ⟨_, _, _, _, _, _, Cert.GinIdeal.Value.run_blocks (F := Ideal) m ρ, ?_⟩
  refine (θ_run Cert.GinRefIdeal.defs _ _).mono (fun _ h c => ?_) (Cert.GinRefIdeal.Value.run (F := Ideal) m' ρ')
  obtain ⟨h0, h1, h2, h3, h4, h5⟩ := hagree c
  obtain ⟨r0, r1, r2, r3, r4, r5, rest⟩ := h c
  refine ⟨r0.trans ?_, r1.trans ?_, r2.trans ?_, r3.trans ?_, r4.trans ?_, r5.trans ?_, rest⟩
  · rw [Cert.GinRefIdeal.Read.val_main_v89_eq]
    show Cert.GinRefIdeal.Read.val_main_v89 (F := Ideal)
      (m' (c.tc.loc Cert.GinRefIdeal.main_arg0)) (m' (c.tc.loc Cert.GinRefIdeal.main_arg1))
      (m' (c.tc.loc Cert.GinRefIdeal.main_arg2)) (m' (c.tc.loc Cert.GinRefIdeal.main_arg3)) = _
    rw [h0, h1, h2, h3]
    refine Eq.trans (funext fun i => ?_) (Cert.Proof.Gin.final_q m c).symm
    rw [eq_ix3 i]
    exact Cert.Proof.GinRef.q_apply _ _ _ _ _ _ _
  · rw [Cert.GinRefIdeal.Read.val_main_v91_eq]
    show Cert.GinRefIdeal.Read.val_main_v91 (F := Ideal)
      (m' (c.tc.loc Cert.GinRefIdeal.main_arg0)) (m' (c.tc.loc Cert.GinRefIdeal.main_arg1))
      (m' (c.tc.loc Cert.GinRefIdeal.main_arg2)) (m' (c.tc.loc Cert.GinRefIdeal.main_arg3)) = _
    rw [h0, h1, h2, h3]
    refine Eq.trans (funext fun i => ?_) (Cert.Proof.Gin.final_k m c).symm
    rw [eq_ix3 i]
    exact Cert.Proof.GinRef.k_apply _ _ _ _ _ _ _
  · rw [Cert.GinRefIdeal.Read.val_main_v92_eq]
    show Cert.GinRefIdeal.Read.val_main_v92 (F := Ideal)
      (m' (c.tc.loc Cert.GinRefIdeal.main_arg0)) (m' (c.tc.loc Cert.GinRefIdeal.main_arg1))
      (m' (c.tc.loc Cert.GinRefIdeal.main_arg2)) (m' (c.tc.loc Cert.GinRefIdeal.main_arg3)) = _
    rw [h0, h1, h2, h3]
    refine Eq.trans (funext fun i => ?_) (Cert.Proof.Gin.final_v m c).symm
    rw [eq_ix3 i]
    exact Cert.Proof.GinRef.v_apply _ _ _ _ _ _ _
  · refine (Cert.GinRefIdeal.Read.val_main_v93_eq _ _ _).trans ?_
    show Cert.GinRefIdeal.Read.val_main_v93 (F := Ideal)
      (m' (c.tc.loc Cert.GinRefIdeal.main_arg0)) (m' (c.tc.loc Cert.GinRefIdeal.main_arg1))
      (m' (c.tc.loc Cert.GinRefIdeal.main_arg2)) = _
    rw [h0, h1, h2]
    refine Eq.trans (funext fun i => ?_) (Cert.Proof.Gin.final_z m c).symm
    rw [eq_ix3 i]
    exact Cert.Proof.GinRef.z_apply _ _ _ _ _ _
  · rw [Cert.GinRefIdeal.Read.val_main_v94_eq]
    show Cert.GinRefIdeal.Read.val_main_v94 (F := Ideal)
      (m' (c.tc.loc Cert.GinRefIdeal.main_arg0)) (m' (c.tc.loc Cert.GinRefIdeal.main_arg1))
      (m' (c.tc.loc Cert.GinRefIdeal.main_arg2)) (m' (c.tc.loc Cert.GinRefIdeal.main_arg4))
      (m' (c.tc.loc Cert.GinRefIdeal.main_arg5)) = _
    rw [h0, h1, h2, h4, h5]
    refine Eq.trans (funext fun i => ?_) (Cert.Proof.Gin.final_g m c).symm
    rw [eq_ix3 i]
    exact Cert.Proof.GinRef.g_apply _ _ _ _ _ _ _ _
  · refine (Cert.GinRefIdeal.Read.val_main_v95_eq _ _ _).trans ?_
    show Cert.GinRefIdeal.Read.val_main_v95 (F := Ideal)
      (m' (c.tc.loc Cert.GinRefIdeal.main_arg0)) (m' (c.tc.loc Cert.GinRefIdeal.main_arg1))
      (m' (c.tc.loc Cert.GinRefIdeal.main_arg2)) = _
    rw [h0, h1, h2]
    refine Eq.trans (funext fun i => ?_) (Cert.Proof.Gin.final_beta m c).symm
    rw [eq_ix3 i]
    exact Cert.Proof.GinRef.beta_apply _ _ _ _ _ _

end Cert.Proof.GinClaims

end
-- ==== Proof.lean ====
module

public import proofs.«01_k».proof.Defs
public import proofs.«01_k».proof.Proof.Gen.Sgu
public import proofs.«01_k».proof.Proof.Gen.Sgu.Frame
public import proofs.«01_k».proof.Proof.Gen.SguIdeal
public import proofs.«01_k».proof.Proof.Gen.SguIdeal.Frame
public import proofs.«01_k».proof.Proof.Gen.SguRefIdeal
public import proofs.«01_k».proof.Proof.Gen.SguRefIdeal.Run
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.Gen.Mid
public import proofs.«01_k».proof.Proof.Gen.Mid.Frame
public import proofs.«01_k».proof.Proof.Gen.MidIdeal
public import proofs.«01_k».proof.Proof.Gen.MidIdeal.Frame
public import proofs.«01_k».proof.Proof.Gen.MidRefIdeal
public import proofs.«01_k».proof.Proof.Gen.MidRefIdeal.Run
public import proofs.«01_k».proof.Proof.Gen.Gin
public import proofs.«01_k».proof.Proof.Gen.Gin.Frame
public import proofs.«01_k».proof.Proof.Gen.GinIdeal
public import proofs.«01_k».proof.Proof.Gen.GinIdeal.Frame
public import proofs.«01_k».proof.Proof.Gen.GinRefIdeal
public import proofs.«01_k».proof.Proof.Gen.GinRefIdeal.Run
public import proofs.«01_k».proof.Proof.Gen.Core
public import proofs.«01_k».proof.Proof.CoreFrame
public import proofs.«01_k».proof.Proof.Gen.CoreIdeal
public import proofs.«01_k».proof.Proof.CoreIdealFrame
public import proofs.«01_k».proof.Proof.SguClaims
public import proofs.«01_k».proof.Proof.MixClaims
public import proofs.«01_k».proof.Proof.MidClaims
public import proofs.«01_k».proof.Proof.GinClaims
public import Idealize.ShloMosaic.Adequacy
public import Idealize.ShloMosaic.Init

@[expose] public section

noncomputable section

namespace Cert.Proof

open Idealize.ShloMosaic Idealize.SL.Sem

/-- The reference of the gating kernel runs to its end and keeps its arguments. -/
theorem frame_SguRef : Cert.quiescent_SguRefIdeal := fun m ρ _ =>
  (θ_run Cert.SguRefIdeal.defs _ _).mono (fun r h => ⟨fun c => (h c).2,
      Idealize.ShloMosaic.sem_eq_zero_of_no_sems (by decide) r.2⟩)
    (Cert.SguRefIdeal.Value.run (F := Ideal) m ρ)

/-- The reference of the channel mixer runs to its end and keeps its arguments. -/
theorem frame_MixRef : Cert.quiescent_MixRefIdeal := fun m ρ _ =>
  (θ_run Cert.MixRefIdeal.defs _ _).mono (fun r h => ⟨fun c => (h c).2,
      Idealize.ShloMosaic.sem_eq_zero_of_no_sems (by decide) r.2⟩)
    (Cert.MixRefIdeal.Value.run (F := Ideal) m ρ)

/-- The reference of the first channel mixer runs to its end and keeps its arguments. -/
theorem frame_MidRef : Cert.quiescent_MidRefIdeal := fun m ρ _ =>
  (θ_run Cert.MidRefIdeal.defs _ _).mono (fun r h => ⟨fun c => (h c).2,
      Idealize.ShloMosaic.sem_eq_zero_of_no_sems (by decide) r.2⟩)
    (Cert.MidRefIdeal.Value.run (F := Ideal) m ρ)

/-- The reference of the delta rule's projections runs to its end and keeps its arguments. -/
theorem frame_GinRef : Cert.quiescent_GinRefIdeal := fun m ρ _ =>
  (θ_run Cert.GinRefIdeal.defs _ _).mono (fun r h => ⟨fun c => (h c).2.2.2.2.2.2,
      Idealize.ShloMosaic.sem_eq_zero_of_no_sems (by decide) r.2⟩)
    (Cert.GinRefIdeal.Value.run (F := Ideal) m ρ)

/-- Everything that is claimed, in the order of `Cert.Claim`. -/
theorem claim : Cert.Claim := ⟨Cert.Sgu.Gen.facts, Cert.SguIdeal.Gen.facts, Cert.SguRefIdeal.Gen.facts,
  Cert.Mix.Gen.facts, Cert.MixIdeal.Gen.facts, Cert.MixRefIdeal.Gen.facts,
  Cert.Mid.Gen.facts, Cert.MidIdeal.Gen.facts, Cert.MidRefIdeal.Gen.facts,
  Cert.Gin.Gen.facts, Cert.GinIdeal.Gen.facts, Cert.GinRefIdeal.Gen.facts,
  Cert.Core.Gen.facts, Cert.CoreIdeal.Gen.facts,
  fun m ρ _ => Cert.Sgu.Gen.frame m ρ, fun m ρ _ => Cert.SguIdeal.Gen.frame m ρ, frame_SguRef,
  fun m ρ _ => Cert.Mix.Gen.frame m ρ, fun m ρ _ => Cert.MixIdeal.Gen.frame m ρ, frame_MixRef,
  fun m ρ _ => Cert.Mid.Gen.frame m ρ, fun m ρ _ => Cert.MidIdeal.Gen.frame m ρ, frame_MidRef,
  fun m ρ _ => Cert.Gin.Gen.frame m ρ, fun m ρ _ => Cert.GinIdeal.Gen.frame m ρ, frame_GinRef,
  fun m ρ _ => CoreFrame.frame m ρ, fun m ρ _ => CoreIdealFrame.frame m ρ,
  SguClaims.preserves, SguClaims.algebraic, trivial, MixClaims.algebraic, trivial, MidClaims.algebraic,
  GinClaims.preserves, GinClaims.algebraic, trivial⟩

end Cert.Proof

end
